-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = m' (((0 : Dev Cert.ReferenceIdeal.nD).tc : Thread Cert.ReferenceIdeal.nD Cert.ReferenceIdeal.τ).loc Cert.ReferenceIdeal.main_arg0)
      ∧ m ((c.tc : Thread Cert.KernelIdeal.nD Cert.KernelIdeal.τ).loc Cert.KernelIdeal.main_arg1) = Layout.block ⟨2, ![512, 1024]⟩ ⟨2, ![512, 32768]⟩ 1 32 c (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = Layout.block ⟨2, ![512, 1024]⟩ ⟨2, ![512, 32768]⟩ 1 32 c (m' (((0 : Dev Cert.ReferenceIdeal.nD).tc : Thread Cert.ReferenceIdeal.nD Cert.ReferenceIdeal.τ).loc Cert.ReferenceIdeal.main_arg2))
      ∧ m ((c.tc : Thread Cert.KernelIdeal.nD Cert.KernelIdeal.τ).loc Cert.KernelIdeal.main_arg3) = Layout.block ⟨2, ![1024, 512]⟩ ⟨2, ![32768, 512]⟩ 0 32 c (m' (((0 : Dev Cert.ReferenceIdeal.nD).tc : Thread Cert.ReferenceIdeal.nD Cert.ReferenceIdeal.τ).loc Cert.ReferenceIdeal.main_arg3))) →
    ∃ (v0 : Buf (Elt Ideal) (((0 : Dev Cert.ReferenceIdeal.nD).tc : Thread Cert.ReferenceIdeal.nD Cert.ReferenceIdeal.τ).loc Cert.ReferenceIdeal.main_v12)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v12) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S512x512 : Shape := ⟨2, ![512, 512]⟩
abbrev S512x1024 : Shape := ⟨2, ![512, 1024]⟩
abbrev S1024x512 : Shape := ⟨2, ![1024, 512]⟩
abbrev S_ : Shape := ⟨0, ![]⟩
abbrev S128x512 : Shape := ⟨2, ![128, 512]⟩
abbrev S128x1024 : Shape := ⟨2, ![128, 1024]⟩
abbrev S16x512 : Shape := ⟨2, ![16, 512]⟩

abbrev nBuf : Space → Nat
  | .hbm => 5
  | .vmem => 8
  | .smem => 0
  | _ => 0

abbrev bufTy : (tb : Table) → Fin (tcTables nBuf tb) → BufTy
  | .hbm, ⟨0, _⟩ => ⟨S512x512, .bf16⟩
  | .hbm, ⟨1, _⟩ => ⟨S512x1024, .bf16⟩
  | .hbm, ⟨2, _⟩ => ⟨S512x1024, .bf16⟩
  | .hbm, ⟨3, _⟩ => ⟨S1024x512, .bf16⟩
  | .hbm, ⟨4, _⟩ => ⟨S512x512, .f32⟩
  | .local _ .vmem, ⟨0, _⟩ => ⟨S512x512, .bf16⟩
  | .local _ .vmem, ⟨1, _⟩ => ⟨S512x1024, .bf16⟩
  | .local _ .vmem, ⟨2, _⟩ => ⟨S512x1024, .bf16⟩
  | .local _ .vmem, ⟨3, _⟩ => ⟨S1024x512, .bf16⟩
  | .local _ .vmem, ⟨4, _⟩ => ⟨S512x512, .f32⟩
  | .local _ .vmem, ⟨5, _⟩ => ⟨S512x512, .bf16⟩
  | .local _ .vmem, ⟨6, _⟩ => ⟨S512x512, .bf16⟩
  | .local _ .vmem, ⟨7, _⟩ => ⟨S512x512, .bf16⟩
  | _, _ => ⟨S512x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 1 → Bool
  | ⟨0, _⟩ => false
  | _ => false

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  (ofTc nBuf bufTy 1 9 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v1 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_scratch0 : Ref sig .tc := ⟨.vmem, 5, rfl⟩
abbrev cc0_scratch1 : Ref sig .tc := ⟨.vmem, 6, rfl⟩
abbrev cc0_scratch2 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev barrier0 : Sem sig := 0

abbrev nD : Nat := 32
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v4 : BitVec 32 := Scalar.addi v2 c1_i32_0
  let c32_i32_1 : BitVec 32 := 32#32
  let v5 : BitVec 32 := Scalar.remsi v4 c32_i32_1
  let c1_i32_3 : BitVec 32 := 1#32
  let v6 : BitVec 32 := Scalar.muli v5 c1_i32_3
  let v7 : BitVec 32 := Scalar.addi c0_i32 v6
  v7.toNat
def k0_dev2 (d0 : Dev nD) : Nat :=
  let c0_i32_7 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32 : BitVec 32 := 2#32
  let v8 : BitVec 32 := Scalar.addi v2 c2_i32
  let c32_i32_4 : BitVec 32 := 32#32
  let v9 : BitVec 32 := Scalar.remsi v8 c32_i32_4
  let c1_i32_6 : BitVec 32 := 1#32
  let v10 : BitVec 32 := Scalar.muli v9 c1_i32_6
  let v11 : BitVec 32 := Scalar.addi c0_i32_7 v10
  v11.toNat
def k0_dev3 (d0 : Dev nD) : Nat :=
  let c0_i32_11 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32 : BitVec 32 := 3#32
  let v12 : BitVec 32 := Scalar.addi v2 c3_i32
  let c32_i32_8 : BitVec 32 := 32#32
  let v13 : BitVec 32 := Scalar.remsi v12 c32_i32_8
  let c1_i32_10 : BitVec 32 := 1#32
  let v14 : BitVec 32 := Scalar.muli v13 c1_i32_10
  let v15 : BitVec 32 := Scalar.addi c0_i32_11 v14
  v15.toNat
def k0_dev4 (d0 : Dev nD) : Nat :=
  let c0_i32_15 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32 : BitVec 32 := 4#32
  let v16 : BitVec 32 := Scalar.addi v2 c4_i32
  let c32_i32_12 : BitVec 32 := 32#32
  let v17 : BitVec 32 := Scalar.remsi v16 c32_i32_12
  let c1_i32_14 : BitVec 32 := 1#32
  let v18 : BitVec 32 := Scalar.muli v17 c1_i32_14
  let v19 : BitVec 32 := Scalar.addi c0_i32_15 v18
  v19.toNat
def k0_dev5 (d0 : Dev nD) : Nat :=
  let c0_i32_19 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c5_i32 : BitVec 32 := 5#32
  let v20 : BitVec 32 := Scalar.addi v2 c5_i32
  let c32_i32_16 : BitVec 32 := 32#32
  let v21 : BitVec 32 := Scalar.remsi v20 c32_i32_16
  let c1_i32_18 : BitVec 32 := 1#32
  let v22 : BitVec 32 := Scalar.muli v21 c1_i32_18
  let v23 : BitVec 32 := Scalar.addi c0_i32_19 v22
  v23.toNat
def k0_dev6 (d0 : Dev nD) : Nat :=
  let c0_i32_23 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c6_i32 : BitVec 32 := 6#32
  let v24 : BitVec 32 := Scalar.addi v2 c6_i32
  let c32_i32_20 : BitVec 32 := 32#32
  let v25 : BitVec 32 := Scalar.remsi v24 c32_i32_20
  let c1_i32_22 : BitVec 32 := 1#32
  let v26 : BitVec 32 := Scalar.muli v25 c1_i32_22
  let v27 : BitVec 32 := Scalar.addi c0_i32_23 v26
  v27.toNat
def k0_dev7 (d0 : Dev nD) : Nat :=
  let c0_i32_27 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c7_i32 : BitVec 32 := 7#32
  let v28 : BitVec 32 := Scalar.addi v2 c7_i32
  let c32_i32_24 : BitVec 32 := 32#32
  let v29 : BitVec 32 := Scalar.remsi v28 c32_i32_24
  let c1_i32_26 : BitVec 32 := 1#32
  let v30 : BitVec 32 := Scalar.muli v29 c1_i32_26
  let v31 : BitVec 32 := Scalar.addi c0_i32_27 v30
  v31.toNat
def k0_dev8 (d0 : Dev nD) : Nat :=
  let c0_i32_31 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v32 : BitVec 32 := Scalar.addi v2 c8_i32
  let c32_i32_28 : BitVec 32 := 32#32
  let v33 : BitVec 32 := Scalar.remsi v32 c32_i32_28
  let c1_i32_30 : BitVec 32 := 1#32
  let v34 : BitVec 32 := Scalar.muli v33 c1_i32_30
  let v35 : BitVec 32 := Scalar.addi c0_i32_31 v34
  v35.toNat
def k0_dev9 (d0 : Dev nD) : Nat :=
  let c0_i32_35 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c9_i32 : BitVec 32 := 9#32
  let v36 : BitVec 32 := Scalar.addi v2 c9_i32
  let c32_i32_32 : BitVec 32 := 32#32
  let v37 : BitVec 32 := Scalar.remsi v36 c32_i32_32
  let c1_i32_34 : BitVec 32 := 1#32
  let v38 : BitVec 32 := Scalar.muli v37 c1_i32_34
  let v39 : BitVec 32 := Scalar.addi c0_i32_35 v38
  v39.toNat
def k0_dev10 (d0 : Dev nD) : Nat :=
  let c0_i32_39 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c10_i32 : BitVec 32 := 10#32
  let v40 : BitVec 32 := Scalar.addi v2 c10_i32
  let c32_i32_36 : BitVec 32 := 32#32
  let v41 : BitVec 32 := Scalar.remsi v40 c32_i32_36
  let c1_i32_38 : BitVec 32 := 1#32
  let v42 : BitVec 32 := Scalar.muli v41 c1_i32_38
  let v43 : BitVec 32 := Scalar.addi c0_i32_39 v42
  v43.toNat
def k0_dev11 (d0 : Dev nD) : Nat :=
  let c0_i32_43 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c11_i32 : BitVec 32 := 11#32
  let v44 : BitVec 32 := Scalar.addi v2 c11_i32
  let c32_i32_40 : BitVec 32 := 32#32
  let v45 : BitVec 32 := Scalar.remsi v44 c32_i32_40
  let c1_i32_42 : BitVec 32 := 1#32
  let v46 : BitVec 32 := Scalar.muli v45 c1_i32_42
  let v47 : BitVec 32 := Scalar.addi c0_i32_43 v46
  v47.toNat
def k0_dev12 (d0 : Dev nD) : Nat :=
  let c0_i32_47 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c12_i32 : BitVec 32 := 12#32
  let v48 : BitVec 32 := Scalar.addi v2 c12_i32
  let c32_i32_44 : BitVec 32 := 32#32
  let v49 : BitVec 32 := Scalar.remsi v48 c32_i32_44
  let c1_i32_46 : BitVec 32 := 1#32
  let v50 : BitVec 32 := Scalar.muli v49 c1_i32_46
  let v51 : BitVec 32 := Scalar.addi c0_i32_47 v50
  v51.toNat
def k0_dev13 (d0 : Dev nD) : Nat :=
  let c0_i32_51 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c13_i32 : BitVec 32 := 13#32
  let v52 : BitVec 32 := Scalar.addi v2 c13_i32
  let c32_i32_48 : BitVec 32 := 32#32
  let v53 : BitVec 32 := Scalar.remsi v52 c32_i32_48
  let c1_i32_50 : BitVec 32 := 1#32
  let v54 : BitVec 32 := Scalar.muli v53 c1_i32_50
  let v55 : BitVec 32 := Scalar.addi c0_i32_51 v54
  v55.toNat
def k0_dev14 (d0 : Dev nD) : Nat :=
  let c0_i32_55 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c14_i32 : BitVec 32 := 14#32
  let v56 : BitVec 32 := Scalar.addi v2 c14_i32
  let c32_i32_52 : BitVec 32 := 32#32
  let v57 : BitVec 32 := Scalar.remsi v56 c32_i32_52
  let c1_i32_54 : BitVec 32 := 1#32
  let v58 : BitVec 32 := Scalar.muli v57 c1_i32_54
  let v59 : BitVec 32 := Scalar.addi c0_i32_55 v58
  v59.toNat
def k0_dev15 (d0 : Dev nD) : Nat :=
  let c0_i32_59 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c15_i32 : BitVec 32 := 15#32
  let v60 : BitVec 32 := Scalar.addi v2 c15_i32
  let c32_i32_56 : BitVec 32 := 32#32
  let v61 : BitVec 32 := Scalar.remsi v60 c32_i32_56
  let c1_i32_58 : BitVec 32 := 1#32
  let v62 : BitVec 32 := Scalar.muli v61 c1_i32_58
  let v63 : BitVec 32 := Scalar.addi c0_i32_59 v62
  v63.toNat
def k0_dev16 (d0 : Dev nD) : Nat :=
  let c0_i32_63 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32 : BitVec 32 := 16#32
  let v64 : BitVec 32 := Scalar.addi v2 c16_i32
  let c32_i32_60 : BitVec 32 := 32#32
  let v65 : BitVec 32 := Scalar.remsi v64 c32_i32_60
  let c1_i32_62 : BitVec 32 := 1#32
  let v66 : BitVec 32 := Scalar.muli v65 c1_i32_62
  let v67 : BitVec 32 := Scalar.addi c0_i32_63 v66
  v67.toNat
def k0_dev17 (d0 : Dev nD) : Nat :=
  let c0_i32_67 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c17_i32 : BitVec 32 := 17#32
  let v68 : BitVec 32 := Scalar.addi v2 c17_i32
  let c32_i32_64 : BitVec 32 := 32#32
  let v69 : BitVec 32 := Scalar.remsi v68 c32_i32_64
  let c1_i32_66 : BitVec 32 := 1#32
  let v70 : BitVec 32 := Scalar.muli v69 c1_i32_66
  let v71 : BitVec 32 := Scalar.addi c0_i32_67 v70
  v71.toNat
def k0_dev18 (d0 : Dev nD) : Nat :=
  let c0_i32_71 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c18_i32 : BitVec 32 := 18#32
  let v72 : BitVec 32 := Scalar.addi v2 c18_i32
  let c32_i32_68 : BitVec 32 := 32#32
  let v73 : BitVec 32 := Scalar.remsi v72 c32_i32_68
  let c1_i32_70 : BitVec 32 := 1#32
  let v74 : BitVec 32 := Scalar.muli v73 c1_i32_70
  let v75 : BitVec 32 := Scalar.addi c0_i32_71 v74
  v75.toNat
def k0_dev19 (d0 : Dev nD) : Nat :=
  let c0_i32_75 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c19_i32 : BitVec 32 := 19#32
  let v76 : BitVec 32 := Scalar.addi v2 c19_i32
  let c32_i32_72 : BitVec 32 := 32#32
  let v77 : BitVec 32 := Scalar.remsi v76 c32_i32_72
  let c1_i32_74 : BitVec 32 := 1#32
  let v78 : BitVec 32 := Scalar.muli v77 c1_i32_74
  let v79 : BitVec 32 := Scalar.addi c0_i32_75 v78
  v79.toNat
def k0_dev20 (d0 : Dev nD) : Nat :=
  let c0_i32_79 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c20_i32 : BitVec 32 := 20#32
  let v80 : BitVec 32 := Scalar.addi v2 c20_i32
  let c32_i32_76 : BitVec 32 := 32#32
  let v81 : BitVec 32 := Scalar.remsi v80 c32_i32_76
  let c1_i32_78 : BitVec 32 := 1#32
  let v82 : BitVec 32 := Scalar.muli v81 c1_i32_78
  let v83 : BitVec 32 := Scalar.addi c0_i32_79 v82
  v83.toNat
def k0_dev21 (d0 : Dev nD) : Nat :=
  let c0_i32_83 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c21_i32 : BitVec 32 := 21#32
  let v84 : BitVec 32 := Scalar.addi v2 c21_i32
  let c32_i32_80 : BitVec 32 := 32#32
  let v85 : BitVec 32 := Scalar.remsi v84 c32_i32_80
  let c1_i32_82 : BitVec 32 := 1#32
  let v86 : BitVec 32 := Scalar.muli v85 c1_i32_82
  let v87 : BitVec 32 := Scalar.addi c0_i32_83 v86
  v87.toNat
def k0_dev22 (d0 : Dev nD) : Nat :=
  let c0_i32_87 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c22_i32 : BitVec 32 := 22#32
  let v88 : BitVec 32 := Scalar.addi v2 c22_i32
  let c32_i32_84 : BitVec 32 := 32#32
  let v89 : BitVec 32 := Scalar.remsi v88 c32_i32_84
  let c1_i32_86 : BitVec 32 := 1#32
  let v90 : BitVec 32 := Scalar.muli v89 c1_i32_86
  let v91 : BitVec 32 := Scalar.addi c0_i32_87 v90
  v91.toNat
def k0_dev23 (d0 : Dev nD) : Nat :=
  let c0_i32_91 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c23_i32 : BitVec 32 := 23#32
  let v92 : BitVec 32 := Scalar.addi v2 c23_i32
  let c32_i32_88 : BitVec 32 := 32#32
  let v93 : BitVec 32 := Scalar.remsi v92 c32_i32_88
  let c1_i32_90 : BitVec 32 := 1#32
  let v94 : BitVec 32 := Scalar.muli v93 c1_i32_90
  let v95 : BitVec 32 := Scalar.addi c0_i32_91 v94
  v95.toNat
def k0_dev24 (d0 : Dev nD) : Nat :=
  let c0_i32_95 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c24_i32 : BitVec 32 := 24#32
  let v96 : BitVec 32 := Scalar.addi v2 c24_i32
  let c32_i32_92 : BitVec 32 := 32#32
  let v97 : BitVec 32 := Scalar.remsi v96 c32_i32_92
  let c1_i32_94 : BitVec 32 := 1#32
  let v98 : BitVec 32 := Scalar.muli v97 c1_i32_94
  let v99 : BitVec 32 := Scalar.addi c0_i32_95 v98
  v99.toNat
def k0_dev25 (d0 : Dev nD) : Nat :=
  let c0_i32_99 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c25_i32 : BitVec 32 := 25#32
  let v100 : BitVec 32 := Scalar.addi v2 c25_i32
  let c32_i32_96 : BitVec 32 := 32#32
  let v101 : BitVec 32 := Scalar.remsi v100 c32_i32_96
  let c1_i32_98 : BitVec 32 := 1#32
  let v102 : BitVec 32 := Scalar.muli v101 c1_i32_98
  let v103 : BitVec 32 := Scalar.addi c0_i32_99 v102
  v103.toNat
def k0_dev26 (d0 : Dev nD) : Nat :=
  let c0_i32_103 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c26_i32 : BitVec 32 := 26#32
  let v104 : BitVec 32 := Scalar.addi v2 c26_i32
  let c32_i32_100 : BitVec 32 := 32#32
  let v105 : BitVec 32 := Scalar.remsi v104 c32_i32_100
  let c1_i32_102 : BitVec 32 := 1#32
  let v106 : BitVec 32 := Scalar.muli v105 c1_i32_102
  let v107 : BitVec 32 := Scalar.addi c0_i32_103 v106
  v107.toNat
def k0_dev27 (d0 : Dev nD) : Nat :=
  let c0_i32_107 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c27_i32 : BitVec 32 := 27#32
  let v108 : BitVec 32 := Scalar.addi v2 c27_i32
  let c32_i32_104 : BitVec 32 := 32#32
  let v109 : BitVec 32 := Scalar.remsi v108 c32_i32_104
  let c1_i32_106 : BitVec 32 := 1#32
  let v110 : BitVec 32 := Scalar.muli v109 c1_i32_106
  let v111 : BitVec 32 := Scalar.addi c0_i32_107 v110
  v111.toNat
def k0_dev28 (d0 : Dev nD) : Nat :=
  let c0_i32_111 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c28_i32 : BitVec 32 := 28#32
  let v112 : BitVec 32 := Scalar.addi v2 c28_i32
  let c32_i32_108 : BitVec 32 := 32#32
  let v113 : BitVec 32 := Scalar.remsi v112 c32_i32_108
  let c1_i32_110 : BitVec 32 := 1#32
  let v114 : BitVec 32 := Scalar.muli v113 c1_i32_110
  let v115 : BitVec 32 := Scalar.addi c0_i32_111 v114
  v115.toNat
def k0_dev29 (d0 : Dev nD) : Nat :=
  let c0_i32_115 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c29_i32 : BitVec 32 := 29#32
  let v116 : BitVec 32 := Scalar.addi v2 c29_i32
  let c32_i32_112 : BitVec 32 := 32#32
  let v117 : BitVec 32 := Scalar.remsi v116 c32_i32_112
  let c1_i32_114 : BitVec 32 := 1#32
  let v118 : BitVec 32 := Scalar.muli v117 c1_i32_114
  let v119 : BitVec 32 := Scalar.addi c0_i32_115 v118
  v119.toNat
def k0_dev30 (d0 : Dev nD) : Nat :=
  let c0_i32_119 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c30_i32 : BitVec 32 := 30#32
  let v120 : BitVec 32 := Scalar.addi v2 c30_i32
  let c32_i32_116 : BitVec 32 := 32#32
  let v121 : BitVec 32 := Scalar.remsi v120 c32_i32_116
  let c1_i32_118 : BitVec 32 := 1#32
  let v122 : BitVec 32 := Scalar.muli v121 c1_i32_118
  let v123 : BitVec 32 := Scalar.addi c0_i32_119 v122
  v123.toNat
def k0_dev31 (d0 : Dev nD) : Nat :=
  let c0_i32_123 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c31_i32 : BitVec 32 := 31#32
  let v124 : BitVec 32 := Scalar.addi v2 c31_i32
  let c32_i32_120 : BitVec 32 := 32#32
  let v125 : BitVec 32 := Scalar.remsi v124 c32_i32_120
  let c1_i32_122 : BitVec 32 := 1#32
  let v126 : BitVec 32 := Scalar.muli v125 c1_i32_122
  let v127 : BitVec 32 := Scalar.addi c0_i32_123 v126
  v127.toNat
def k0_cond1 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_137 : BitVec 32 := 0#32
  let v149 : BitVec 1 := Scalar.cmpi .ne v2 c0_i32_137
  let v150 : BitVec 32 := Scalar.extui v149
  let c0_i32_138 : BitVec 32 := 0#32
  let v151 : BitVec 1 := Scalar.cmpi .ne v150 c0_i32_138
  v151

def k0_off1 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32_136 : BitVec 32 := 16#32
  let v148 : BitVec 32 := Scalar.muli v2 c16_i32_136
  let c0_i32_1098 : BitVec 32 := 0#32
  ![v148.toNat, 0]
def k0_dev32 : Nat :=
  let c0_i32_1097 : BitVec 32 := 0#32
  let c0_i32_1095 : BitVec 32 := 0#32
  let c1_i32_1096 : BitVec 32 := 1#32
  let v1044 : BitVec 32 := Scalar.muli c0_i32_1095 c1_i32_1096
  let v1045 : BitVec 32 := Scalar.addi c0_i32_1097 v1044
  v1045.toNat
def k0_cond2 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_140 : BitVec 32 := 1#32
  let v153 : BitVec 1 := Scalar.cmpi .ne v2 c1_i32_140
  let v154 : BitVec 32 := Scalar.extui v153
  let c0_i32_141 : BitVec 32 := 0#32
  let v155 : BitVec 1 := Scalar.cmpi .ne v154 c0_i32_141
  v155

def k0_off2 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32_139 : BitVec 32 := 16#32
  let v152 : BitVec 32 := Scalar.muli v2 c16_i32_139
  let c0_i32_1098 : BitVec 32 := 0#32
  ![v152.toNat, 0]
def k0_dev33 : Nat :=
  let c0_i32_1097 : BitVec 32 := 0#32
  let c1_i32_1095 : BitVec 32 := 1#32
  let c1_i32_1096 : BitVec 32 := 1#32
  let v1044 : BitVec 32 := Scalar.muli c1_i32_1095 c1_i32_1096
  let v1045 : BitVec 32 := Scalar.addi c0_i32_1097 v1044
  v1045.toNat
def k0_cond3 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32_143 : BitVec 32 := 2#32
  let v157 : BitVec 1 := Scalar.cmpi .ne v2 c2_i32_143
  let v158 : BitVec 32 := Scalar.extui v157
  let c0_i32_144 : BitVec 32 := 0#32
  let v159 : BitVec 1 := Scalar.cmpi .ne v158 c0_i32_144
  v159

def k0_off3 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32_142 : BitVec 32 := 16#32
  let v156 : BitVec 32 := Scalar.muli v2 c16_i32_142
  let c0_i32_1098 : BitVec 32 := 0#32
  ![v156.toNat, 0]
def k0_dev34 : Nat :=
  let c0_i32_1097 : BitVec 32 := 0#32
  let c2_i32_1095 : BitVec 32 := 2#32
  let c1_i32_1096 : BitVec 32 := 1#32
  let v1044 : BitVec 32 := Scalar.muli c2_i32_1095 c1_i32_1096
  let v1045 : BitVec 32 := Scalar.addi c0_i32_1097 v1044
  v1045.toNat
def k0_cond4 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32_146 : BitVec 32 := 3#32
  let v161 : BitVec 1 := Scalar.cmpi .ne v2 c3_i32_146
  let v162 : BitVec 32 := Scalar.extui v161
  let c0_i32_147 : BitVec 32 := 0#32
  let v163 : BitVec 1 := Scalar.cmpi .ne v162 c0_i32_147
  v163

def k0_off4 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32_145 : BitVec 32 := 16#32
  let v160 : BitVec 32 := Scalar.muli v2 c16_i32_145
  let c0_i32_1098 : BitVec 32 := 0#32
  ![v160.toNat, 0]
def k0_dev35 : Nat :=
  let c0_i32_1097 : BitVec 32 := 0#32
  let c3_i32_1095 : BitVec 32 := 3#32
  let c1_i32_1096 : BitVec 32 := 1#32
  let v1044 : BitVec 32 := Scalar.muli c3_i32_1095 c1_i32_1096
  let v1045 : BitVec 32 := Scalar.addi c0_i32_1097 v1044
  v1045.toNat
def k0_cond5 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32_149 : BitVec 32 := 4#32
  let v165 : BitVec 1 := Scalar.cmpi .ne v2 c4_i32_149
  let v166 : BitVec 32 := Scalar.extui v165
  let c0_i32_150 : BitVec 32 := 0#32
  let v167 : BitVec 1 := Scalar.cmpi .ne v166 c0_i32_150
  v167

def k0_off5 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32_148 : BitVec 32 := 16#32
  let v164 : BitVec 32 := Scalar.muli v2 c16_i32_148
  let c0_i32_1098 : BitVec 32 := 0#32
  ![v164.toNat, 0]
def k0_dev36 : Nat :=
  let c0_i32_1097 : BitVec 32 := 0#32
  let c4_i32_1095 : BitVec 32 := 4#32
  let c1_i32_1096 : BitVec 32 := 1#32
  let v1044 : BitVec 32 := Scalar.muli c4_i32_1095 c1_i32_1096
  let v1045 : BitVec 32 := Scalar.addi c0_i32_1097 v1044
  v1045.toNat
def k0_cond6 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c5_i32_152 : BitVec 32 := 5#32
  let v169 : BitVec 1 := Scalar.cmpi .ne v2 c5_i32_152
  let v170 : BitVec 32 := Scalar.extui v169
  let c0_i32_153 : BitVec 32 := 0#32
  let v171 : BitVec 1 := Scalar.cmpi .ne v170 c0_i32_153
  v171

def k0_off6 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32_151 : BitVec 32 := 16#32
  let v168 : BitVec 32 := Scalar.muli v2 c16_i32_151
  let c0_i32_1098 : BitVec 32 := 0#32
  ![v168.toNat, 0]
def k0_dev37 : Nat :=
  let c0_i32_1097 : BitVec 32 := 0#32
  let c5_i32_1095 : BitVec 32 := 5#32
  let c1_i32_1096 : BitVec 32 := 1#32
  let v1044 : BitVec 32 := Scalar.muli c5_i32_1095 c1_i32_1096
  let v1045 : BitVec 32 := Scalar.addi c0_i32_1097 v1044
  v1045.toNat
def k0_cond7 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c6_i32_155 : BitVec 32 := 6#32
  let v173 : BitVec 1 := Scalar.cmpi .ne v2 c6_i32_155
  let v174 : BitVec 32 := Scalar.extui v173
  let c0_i32_156 : BitVec 32 := 0#32
  let v175 : BitVec 1 := Scalar.cmpi .ne v174 c0_i32_156
  v175

def k0_off7 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32_154 : BitVec 32 := 16#32
  let v172 : BitVec 32 := Scalar.muli v2 c16_i32_154
  let c0_i32_1098 : BitVec 32 := 0#32
  ![v172.toNat, 0]
def k0_dev38 : Nat :=
  let c0_i32_1097 : BitVec 32 := 0#32
  let c6_i32_1095 : BitVec 32 := 6#32
  let c1_i32_1096 : BitVec 32 := 1#32
  let v1044 : BitVec 32 := Scalar.muli c6_i32_1095 c1_i32_1096
  let v1045 : BitVec 32 := Scalar.addi c0_i32_1097 v1044
  v1045.toNat
def k0_cond8 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c7_i32_158 : BitVec 32 := 7#32
  let v177 : BitVec 1 := Scalar.cmpi .ne v2 c7_i32_158
  let v178 : BitVec 32 := Scalar.extui v177
  let c0_i32_159 : BitVec 32 := 0#32
  let v179 : BitVec 1 := Scalar.cmpi .ne v178 c0_i32_159
  v179

def k0_off8 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32_157 : BitVec 32 := 16#32
  let v176 : BitVec 32 := Scalar.muli v2 c16_i32_157
  let c0_i32_1098 : BitVec 32 := 0#32
  ![v176.toNat, 0]
def k0_dev39 : Nat :=
  let c0_i32_1097 : BitVec 32 := 0#32
  let c7_i32_1095 : BitVec 32 := 7#32
  let c1_i32_1096 : BitVec 32 := 1#32
  let v1044 : BitVec 32 := Scalar.muli c7_i32_1095 c1_i32_1096
  let v1045 : BitVec 32 := Scalar.addi c0_i32_1097 v1044
  v1045.toNat
def k0_cond9 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_165 : BitVec 32 := 8#32
  let v193 : BitVec 1 := Scalar.cmpi .ne v2 c8_i32_165
  let v194 : BitVec 32 := Scalar.extui v193
  let c0_i32_166 : BitVec 32 := 0#32
  let v195 : BitVec 1 := Scalar.cmpi .ne v194 c0_i32_166
  v195

def k0_off9 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32_164 : BitVec 32 := 16#32
  let v192 : BitVec 32 := Scalar.muli v2 c16_i32_164
  let c0_i32_1098 : BitVec 32 := 0#32
  ![v192.toNat, 0]
def k0_dev40 : Nat :=
  let c0_i32_1097 : BitVec 32 := 0#32
  let c8_i32_1095 : BitVec 32 := 8#32
  let c1_i32_1096 : BitVec 32 := 1#32
  let v1044 : BitVec 32 := Scalar.muli c8_i32_1095 c1_i32_1096
  let v1045 : BitVec 32 := Scalar.addi c0_i32_1097 v1044
  v1045.toNat
def k0_cond10 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c9_i32_168 : BitVec 32 := 9#32
  let v197 : BitVec 1 := Scalar.cmpi .ne v2 c9_i32_168
  let v198 : BitVec 32 := Scalar.extui v197
  let c0_i32_169 : BitVec 32 := 0#32
  let v199 : BitVec 1 := Scalar.cmpi .ne v198 c0_i32_169
  v199

def k0_off10 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32_167 : BitVec 32 := 16#32
  let v196 : BitVec 32 := Scalar.muli v2 c16_i32_167
  let c0_i32_1098 : BitVec 32 := 0#32
  ![v196.toNat, 0]
def k0_dev41 : Nat :=
  let c0_i32_1097 : BitVec 32 := 0#32
  let c9_i32_1095 : BitVec 32 := 9#32
  let c1_i32_1096 : BitVec 32 := 1#32
  let v1044 : BitVec 32 := Scalar.muli c9_i32_1095 c1_i32_1096
  let v1045 : BitVec 32 := Scalar.addi c0_i32_1097 v1044
  v1045.toNat
def k0_cond11 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c10_i32_171 : BitVec 32 := 10#32
  let v201 : BitVec 1 := Scalar.cmpi .ne v2 c10_i32_171
  let v202 : BitVec 32 := Scalar.extui v201
  let c0_i32_172 : BitVec 32 := 0#32
  let v203 : BitVec 1 := Scalar.cmpi .ne v202 c0_i32_172
  v203

def k0_off11 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32_170 : BitVec 32 := 16#32
  let v200 : BitVec 32 := Scalar.muli v2 c16_i32_170
  let c0_i32_1098 : BitVec 32 := 0#32
  ![v200.toNat, 0]
def k0_dev42 : Nat :=
  let c0_i32_1097 : BitVec 32 := 0#32
  let c10_i32_1095 : BitVec 32 := 10#32
  let c1_i32_1096 : BitVec 32 := 1#32
  let v1044 : BitVec 32 := Scalar.muli c10_i32_1095 c1_i32_1096
  let v1045 : BitVec 32 := Scalar.addi c0_i32_1097 v1044
  v1045.toNat
def k0_cond12 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c11_i32_174 : BitVec 32 := 11#32
  let v205 : BitVec 1 := Scalar.cmpi .ne v2 c11_i32_174
  let v206 : BitVec 32 := Scalar.extui v205
  let c0_i32_175 : BitVec 32 := 0#32
  let v207 : BitVec 1 := Scalar.cmpi .ne v206 c0_i32_175
  v207

def k0_off12 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32_173 : BitVec 32 := 16#32
  let v204 : BitVec 32 := Scalar.muli v2 c16_i32_173
  let c0_i32_1098 : BitVec 32 := 0#32
  ![v204.toNat, 0]
def k0_dev43 : Nat :=
  let c0_i32_1097 : BitVec 32 := 0#32
  let c11_i32_1095 : BitVec 32 := 11#32
  let c1_i32_1096 : BitVec 32 := 1#32
  let v1044 : BitVec 32 := Scalar.muli c11_i32_1095 c1_i32_1096
  let v1045 : BitVec 32 := Scalar.addi c0_i32_1097 v1044
  v1045.toNat
def k0_cond13 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c12_i32_177 : BitVec 32 := 12#32
  let v209 : BitVec 1 := Scalar.cmpi .ne v2 c12_i32_177
  let v210 : BitVec 32 := Scalar.extui v209
  let c0_i32_178 : BitVec 32 := 0#32
  let v211 : BitVec 1 := Scalar.cmpi .ne v210 c0_i32_178
  v211

def k0_off13 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32_176 : BitVec 32 := 16#32
  let v208 : BitVec 32 := Scalar.muli v2 c16_i32_176
  let c0_i32_1098 : BitVec 32 := 0#32
  ![v208.toNat, 0]
def k0_dev44 : Nat :=
  let c0_i32_1097 : BitVec 32 := 0#32
  let c12_i32_1095 : BitVec 32 := 12#32
  let c1_i32_1096 : BitVec 32 := 1#32
  let v1044 : BitVec 32 := Scalar.muli c12_i32_1095 c1_i32_1096
  let v1045 : BitVec 32 := Scalar.addi c0_i32_1097 v1044
  v1045.toNat
def k0_cond14 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c13_i32_180 : BitVec 32 := 13#32
  let v213 : BitVec 1 := Scalar.cmpi .ne v2 c13_i32_180
  let v214 : BitVec 32 := Scalar.extui v213
  let c0_i32_181 : BitVec 32 := 0#32
  let v215 : BitVec 1 := Scalar.cmpi .ne v214 c0_i32_181
  v215

def k0_off14 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32_179 : BitVec 32 := 16#32
  let v212 : BitVec 32 := Scalar.muli v2 c16_i32_179
  let c0_i32_1098 : BitVec 32 := 0#32
  ![v212.toNat, 0]
def k0_dev45 : Nat :=
  let c0_i32_1097 : BitVec 32 := 0#32
  let c13_i32_1095 : BitVec 32 := 13#32
  let c1_i32_1096 : BitVec 32 := 1#32
  let v1044 : BitVec 32 := Scalar.muli c13_i32_1095 c1_i32_1096
  let v1045 : BitVec 32 := Scalar.addi c0_i32_1097 v1044
  v1045.toNat
def k0_cond15 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c14_i32_183 : BitVec 32 := 14#32
  let v217 : BitVec 1 := Scalar.cmpi .ne v2 c14_i32_183
  let v218 : BitVec 32 := Scalar.extui v217
  let c0_i32_184 : BitVec 32 := 0#32
  let v219 : BitVec 1 := Scalar.cmpi .ne v218 c0_i32_184
  v219

def k0_off15 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32_182 : BitVec 32 := 16#32
  let v216 : BitVec 32 := Scalar.muli v2 c16_i32_182
  let c0_i32_1098 : BitVec 32 := 0#32
  ![v216.toNat, 0]
def k0_dev46 : Nat :=
  let c0_i32_1097 : BitVec 32 := 0#32
  let c14_i32_1095 : BitVec 32 := 14#32
  let c1_i32_1096 : BitVec 32 := 1#32
  let v1044 : BitVec 32 := Scalar.muli c14_i32_1095 c1_i32_1096
  let v1045 : BitVec 32 := Scalar.addi c0_i32_1097 v1044
  v1045.toNat
def k0_cond16 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c15_i32_186 : BitVec 32 := 15#32
  let v221 : BitVec 1 := Scalar.cmpi .ne v2 c15_i32_186
  let v222 : BitVec 32 := Scalar.extui v221
  let c0_i32_187 : BitVec 32 := 0#32
  let v223 : BitVec 1 := Scalar.cmpi .ne v222 c0_i32_187
  v223

def k0_off16 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32_185 : BitVec 32 := 16#32
  let v220 : BitVec 32 := Scalar.muli v2 c16_i32_185
  let c0_i32_1098 : BitVec 32 := 0#32
  ![v220.toNat, 0]
def k0_dev47 : Nat :=
  let c0_i32_1097 : BitVec 32 := 0#32
  let c15_i32_1095 : BitVec 32 := 15#32
  let c1_i32_1096 : BitVec 32 := 1#32
  let v1044 : BitVec 32 := Scalar.muli c15_i32_1095 c1_i32_1096
  let v1045 : BitVec 32 := Scalar.addi c0_i32_1097 v1044
  v1045.toNat
def k0_cond17 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32_193 : BitVec 32 := 16#32
  let v237 : BitVec 1 := Scalar.cmpi .ne v2 c16_i32_193
  let v238 : BitVec 32 := Scalar.extui v237
  let c0_i32_194 : BitVec 32 := 0#32
  let v239 : BitVec 1 := Scalar.cmpi .ne v238 c0_i32_194
  v239

def k0_off17 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32_192 : BitVec 32 := 16#32
  let v236 : BitVec 32 := Scalar.muli v2 c16_i32_192
  let c0_i32_1098 : BitVec 32 := 0#32
  ![v236.toNat, 0]
def k0_dev48 : Nat :=
  let c0_i32_1097 : BitVec 32 := 0#32
  let c16_i32_1095 : BitVec 32 := 16#32
  let c1_i32_1096 : BitVec 32 := 1#32
  let v1044 : BitVec 32 := Scalar.muli c16_i32_1095 c1_i32_1096
  let v1045 : BitVec 32 := Scalar.addi c0_i32_1097 v1044
  v1045.toNat
def k0_cond18 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c17_i32_196 : BitVec 32 := 17#32
  let v241 : BitVec 1 := Scalar.cmpi .ne v2 c17_i32_196
  let v242 : BitVec 32 := Scalar.extui v241
  let c0_i32_197 : BitVec 32 := 0#32
  let v243 : BitVec 1 := Scalar.cmpi .ne v242 c0_i32_197
  v243

def k0_off18 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32_195 : BitVec 32 := 16#32
  let v240 : BitVec 32 := Scalar.muli v2 c16_i32_195
  let c0_i32_1098 : BitVec 32 := 0#32
  ![v240.toNat, 0]
def k0_dev49 : Nat :=
  let c0_i32_1097 : BitVec 32 := 0#32
  let c17_i32_1095 : BitVec 32 := 17#32
  let c1_i32_1096 : BitVec 32 := 1#32
  let v1044 : BitVec 32 := Scalar.muli c17_i32_1095 c1_i32_1096
  let v1045 : BitVec 32 := Scalar.addi c0_i32_1097 v1044
  v1045.toNat
def k0_cond19 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c18_i32_199 : BitVec 32 := 18#32
  let v245 : BitVec 1 := Scalar.cmpi .ne v2 c18_i32_199
  let v246 : BitVec 32 := Scalar.extui v245
  let c0_i32_200 : BitVec 32 := 0#32
  let v247 : BitVec 1 := Scalar.cmpi .ne v246 c0_i32_200
  v247

def k0_off19 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32_198 : BitVec 32 := 16#32
  let v244 : BitVec 32 := Scalar.muli v2 c16_i32_198
  let c0_i32_1098 : BitVec 32 := 0#32
  ![v244.toNat, 0]
def k0_dev50 : Nat :=
  let c0_i32_1097 : BitVec 32 := 0#32
  let c18_i32_1095 : BitVec 32 := 18#32
  let c1_i32_1096 : BitVec 32 := 1#32
  let v1044 : BitVec 32 := Scalar.muli c18_i32_1095 c1_i32_1096
  let v1045 : BitVec 32 := Scalar.addi c0_i32_1097 v1044
  v1045.toNat
def k0_cond20 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c19_i32_202 : BitVec 32 := 19#32
  let v249 : BitVec 1 := Scalar.cmpi .ne v2 c19_i32_202
  let v250 : BitVec 32 := Scalar.extui v249
  let c0_i32_203 : BitVec 32 := 0#32
  let v251 : BitVec 1 := Scalar.cmpi .ne v250 c0_i32_203
  v251

def k0_off20 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32_201 : BitVec 32 := 16#32
  let v248 : BitVec 32 := Scalar.muli v2 c16_i32_201
  let c0_i32_1098 : BitVec 32 := 0#32
  ![v248.toNat, 0]
def k0_dev51 : Nat :=
  let c0_i32_1097 : BitVec 32 := 0#32
  let c19_i32_1095 : BitVec 32 := 19#32
  let c1_i32_1096 : BitVec 32 := 1#32
  let v1044 : BitVec 32 := Scalar.muli c19_i32_1095 c1_i32_1096
  let v1045 : BitVec 32 := Scalar.addi c0_i32_1097 v1044
  v1045.toNat
def k0_cond21 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c20_i32_205 : BitVec 32 := 20#32
  let v253 : BitVec 1 := Scalar.cmpi .ne v2 c20_i32_205
  let v254 : BitVec 32 := Scalar.extui v253
  let c0_i32_206 : BitVec 32 := 0#32
  let v255 : BitVec 1 := Scalar.cmpi .ne v254 c0_i32_206
  v255

def k0_off21 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32_204 : BitVec 32 := 16#32
  let v252 : BitVec 32 := Scalar.muli v2 c16_i32_204
  let c0_i32_1098 : BitVec 32 := 0#32
  ![v252.toNat, 0]
def k0_dev52 : Nat :=
  let c0_i32_1097 : BitVec 32 := 0#32
  let c20_i32_1095 : BitVec 32 := 20#32
  let c1_i32_1096 : BitVec 32 := 1#32
  let v1044 : BitVec 32 := Scalar.muli c20_i32_1095 c1_i32_1096
  let v1045 : BitVec 32 := Scalar.addi c0_i32_1097 v1044
  v1045.toNat
def k0_cond22 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c21_i32_208 : BitVec 32 := 21#32
  let v257 : BitVec 1 := Scalar.cmpi .ne v2 c21_i32_208
  let v258 : BitVec 32 := Scalar.extui v257
  let c0_i32_209 : BitVec 32 := 0#32
  let v259 : BitVec 1 := Scalar.cmpi .ne v258 c0_i32_209
  v259

def k0_off22 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32_207 : BitVec 32 := 16#32
  let v256 : BitVec 32 := Scalar.muli v2 c16_i32_207
  let c0_i32_1098 : BitVec 32 := 0#32
  ![v256.toNat, 0]
def k0_dev53 : Nat :=
  let c0_i32_1097 : BitVec 32 := 0#32
  let c21_i32_1095 : BitVec 32 := 21#32
  let c1_i32_1096 : BitVec 32 := 1#32
  let v1044 : BitVec 32 := Scalar.muli c21_i32_1095 c1_i32_1096
  let v1045 : BitVec 32 := Scalar.addi c0_i32_1097 v1044
  v1045.toNat
def k0_cond23 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c22_i32_211 : BitVec 32 := 22#32
  let v261 : BitVec 1 := Scalar.cmpi .ne v2 c22_i32_211
  let v262 : BitVec 32 := Scalar.extui v261
  let c0_i32_212 : BitVec 32 := 0#32
  let v263 : BitVec 1 := Scalar.cmpi .ne v262 c0_i32_212
  v263

def k0_off23 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32_210 : BitVec 32 := 16#32
  let v260 : BitVec 32 := Scalar.muli v2 c16_i32_210
  let c0_i32_1098 : BitVec 32 := 0#32
  ![v260.toNat, 0]
def k0_dev54 : Nat :=
  let c0_i32_1097 : BitVec 32 := 0#32
  let c22_i32_1095 : BitVec 32 := 22#32
  let c1_i32_1096 : BitVec 32 := 1#32
  let v1044 : BitVec 32 := Scalar.muli c22_i32_1095 c1_i32_1096
  let v1045 : BitVec 32 := Scalar.addi c0_i32_1097 v1044
  v1045.toNat
def k0_cond24 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c23_i32_214 : BitVec 32 := 23#32
  let v265 : BitVec 1 := Scalar.cmpi .ne v2 c23_i32_214
  let v266 : BitVec 32 := Scalar.extui v265
  let c0_i32_215 : BitVec 32 := 0#32
  let v267 : BitVec 1 := Scalar.cmpi .ne v266 c0_i32_215
  v267

def k0_off24 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32_213 : BitVec 32 := 16#32
  let v264 : BitVec 32 := Scalar.muli v2 c16_i32_213
  let c0_i32_1098 : BitVec 32 := 0#32
  ![v264.toNat, 0]
def k0_dev55 : Nat :=
  let c0_i32_1097 : BitVec 32 := 0#32
  let c23_i32_1095 : BitVec 32 := 23#32
  let c1_i32_1096 : BitVec 32 := 1#32
  let v1044 : BitVec 32 := Scalar.muli c23_i32_1095 c1_i32_1096
  let v1045 : BitVec 32 := Scalar.addi c0_i32_1097 v1044
  v1045.toNat
def k0_cond25 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c24_i32_221 : BitVec 32 := 24#32
  let v281 : BitVec 1 := Scalar.cmpi .ne v2 c24_i32_221
  let v282 : BitVec 32 := Scalar.extui v281
  let c0_i32_222 : BitVec 32 := 0#32
  let v283 : BitVec 1 := Scalar.cmpi .ne v282 c0_i32_222
  v283

def k0_off25 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32_220 : BitVec 32 := 16#32
  let v280 : BitVec 32 := Scalar.muli v2 c16_i32_220
  let c0_i32_1098 : BitVec 32 := 0#32
  ![v280.toNat, 0]
def k0_dev56 : Nat :=
  let c0_i32_1097 : BitVec 32 := 0#32
  let c24_i32_1095 : BitVec 32 := 24#32
  let c1_i32_1096 : BitVec 32 := 1#32
  let v1044 : BitVec 32 := Scalar.muli c24_i32_1095 c1_i32_1096
  let v1045 : BitVec 32 := Scalar.addi c0_i32_1097 v1044
  v1045.toNat
def k0_cond26 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c25_i32_224 : BitVec 32 := 25#32
  let v285 : BitVec 1 := Scalar.cmpi .ne v2 c25_i32_224
  let v286 : BitVec 32 := Scalar.extui v285
  let c0_i32_225 : BitVec 32 := 0#32
  let v287 : BitVec 1 := Scalar.cmpi .ne v286 c0_i32_225
  v287

def k0_off26 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32_223 : BitVec 32 := 16#32
  let v284 : BitVec 32 := Scalar.muli v2 c16_i32_223
  let c0_i32_1098 : BitVec 32 := 0#32
  ![v284.toNat, 0]
def k0_dev57 : Nat :=
  let c0_i32_1097 : BitVec 32 := 0#32
  let c25_i32_1095 : BitVec 32 := 25#32
  let c1_i32_1096 : BitVec 32 := 1#32
  let v1044 : BitVec 32 := Scalar.muli c25_i32_1095 c1_i32_1096
  let v1045 : BitVec 32 := Scalar.addi c0_i32_1097 v1044
  v1045.toNat
def k0_cond27 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c26_i32_227 : BitVec 32 := 26#32
  let v289 : BitVec 1 := Scalar.cmpi .ne v2 c26_i32_227
  let v290 : BitVec 32 := Scalar.extui v289
  let c0_i32_228 : BitVec 32 := 0#32
  let v291 : BitVec 1 := Scalar.cmpi .ne v290 c0_i32_228
  v291

def k0_off27 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32_226 : BitVec 32 := 16#32
  let v288 : BitVec 32 := Scalar.muli v2 c16_i32_226
  let c0_i32_1098 : BitVec 32 := 0#32
  ![v288.toNat, 0]
def k0_dev58 : Nat :=
  let c0_i32_1097 : BitVec 32 := 0#32
  let c26_i32_1095 : BitVec 32 := 26#32
  let c1_i32_1096 : BitVec 32 := 1#32
  let v1044 : BitVec 32 := Scalar.muli c26_i32_1095 c1_i32_1096
  let v1045 : BitVec 32 := Scalar.addi c0_i32_1097 v1044
  v1045.toNat
def k0_cond28 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c27_i32_230 : BitVec 32 := 27#32
  let v293 : BitVec 1 := Scalar.cmpi .ne v2 c27_i32_230
  let v294 : BitVec 32 := Scalar.extui v293
  let c0_i32_231 : BitVec 32 := 0#32
  let v295 : BitVec 1 := Scalar.cmpi .ne v294 c0_i32_231
  v295

def k0_off28 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32_229 : BitVec 32 := 16#32
  let v292 : BitVec 32 := Scalar.muli v2 c16_i32_229
  let c0_i32_1098 : BitVec 32 := 0#32
  ![v292.toNat, 0]
def k0_dev59 : Nat :=
  let c0_i32_1097 : BitVec 32 := 0#32
  let c27_i32_1095 : BitVec 32 := 27#32
  let c1_i32_1096 : BitVec 32 := 1#32
  let v1044 : BitVec 32 := Scalar.muli c27_i32_1095 c1_i32_1096
  let v1045 : BitVec 32 := Scalar.addi c0_i32_1097 v1044
  v1045.toNat
def k0_cond29 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c28_i32_233 : BitVec 32 := 28#32
  let v297 : BitVec 1 := Scalar.cmpi .ne v2 c28_i32_233
  let v298 : BitVec 32 := Scalar.extui v297
  let c0_i32_234 : BitVec 32 := 0#32
  let v299 : BitVec 1 := Scalar.cmpi .ne v298 c0_i32_234
  v299

def k0_off29 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32_232 : BitVec 32 := 16#32
  let v296 : BitVec 32 := Scalar.muli v2 c16_i32_232
  let c0_i32_1098 : BitVec 32 := 0#32
  ![v296.toNat, 0]
def k0_dev60 : Nat :=
  let c0_i32_1097 : BitVec 32 := 0#32
  let c28_i32_1095 : BitVec 32 := 28#32
  let c1_i32_1096 : BitVec 32 := 1#32
  let v1044 : BitVec 32 := Scalar.muli c28_i32_1095 c1_i32_1096
  let v1045 : BitVec 32 := Scalar.addi c0_i32_1097 v1044
  v1045.toNat
def k0_cond30 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c29_i32_236 : BitVec 32 := 29#32
  let v301 : BitVec 1 := Scalar.cmpi .ne v2 c29_i32_236
  let v302 : BitVec 32 := Scalar.extui v301
  let c0_i32_237 : BitVec 32 := 0#32
  let v303 : BitVec 1 := Scalar.cmpi .ne v302 c0_i32_237
  v303

def k0_off30 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32_235 : BitVec 32 := 16#32
  let v300 : BitVec 32 := Scalar.muli v2 c16_i32_235
  let c0_i32_1098 : BitVec 32 := 0#32
  ![v300.toNat, 0]
def k0_dev61 : Nat :=
  let c0_i32_1097 : BitVec 32 := 0#32
  let c29_i32_1095 : BitVec 32 := 29#32
  let c1_i32_1096 : BitVec 32 := 1#32
  let v1044 : BitVec 32 := Scalar.muli c29_i32_1095 c1_i32_1096
  let v1045 : BitVec 32 := Scalar.addi c0_i32_1097 v1044
  v1045.toNat
def k0_cond31 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c30_i32_239 : BitVec 32 := 30#32
  let v305 : BitVec 1 := Scalar.cmpi .ne v2 c30_i32_239
  let v306 : BitVec 32 := Scalar.extui v305
  let c0_i32_240 : BitVec 32 := 0#32
  let v307 : BitVec 1 := Scalar.cmpi .ne v306 c0_i32_240
  v307

def k0_off31 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32_238 : BitVec 32 := 16#32
  let v304 : BitVec 32 := Scalar.muli v2 c16_i32_238
  let c0_i32_1098 : BitVec 32 := 0#32
  ![v304.toNat, 0]
def k0_dev62 : Nat :=
  let c0_i32_1097 : BitVec 32 := 0#32
  let c30_i32_1095 : BitVec 32 := 30#32
  let c1_i32_1096 : BitVec 32 := 1#32
  let v1044 : BitVec 32 := Scalar.muli c30_i32_1095 c1_i32_1096
  let v1045 : BitVec 32 := Scalar.addi c0_i32_1097 v1044
  v1045.toNat
def k0_cond32 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c31_i32_242 : BitVec 32 := 31#32
  let v309 : BitVec 1 := Scalar.cmpi .ne v2 c31_i32_242
  let v310 : BitVec 32 := Scalar.extui v309
  let c0_i32_243 : BitVec 32 := 0#32
  let v311 : BitVec 1 := Scalar.cmpi .ne v310 c0_i32_243
  v311

def k0_off32 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32_241 : BitVec 32 := 16#32
  let v308 : BitVec 32 := Scalar.muli v2 c16_i32_241
  let c0_i32_1098 : BitVec 32 := 0#32
  ![v308.toNat, 0]
def k0_dev63 : Nat :=
  let c0_i32_1097 : BitVec 32 := 0#32
  let c31_i32_1095 : BitVec 32 := 31#32
  let c1_i32_1096 : BitVec 32 := 1#32
  let v1044 : BitVec 32 := Scalar.muli c31_i32_1095 c1_i32_1096
  let v1045 : BitVec 32 := Scalar.addi c0_i32_1097 v1044
  v1045.toNat
def k0_off33 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32_244 : BitVec 32 := 16#32
  let v312 : BitVec 32 := Scalar.muli v2 c16_i32_244
  let v313 : Index := Scalar.indexCast v312
  let c0_245 : Index := 0#32
  ![v313.toNat, 0]
def k0_off34 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32_241 : BitVec 32 := 16#32
  let v308 : BitVec 32 := Scalar.muli v2 c16_i32_241
  let c0_i32_251 : BitVec 32 := 0#32
  ![v308.toNat, 0]
def k0_dev64 (d0 : Dev nD) : Nat :=
  let c0_i32_476 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_471 : BitVec 32 := 1#32
  let v545 : BitVec 32 := Scalar.addi v2 c1_i32_471
  let c32_i32_472 : BitVec 32 := 32#32
  let v546 : BitVec 32 := Scalar.remsi v545 c32_i32_472
  let c1_i32_475 : BitVec 32 := 1#32
  let v549 : BitVec 32 := Scalar.muli v546 c1_i32_475
  let v550 : BitVec 32 := Scalar.addi c0_i32_476 v549
  v550.toNat
def k0_dev65 (d0 : Dev nD) : Nat :=
  let c0_i32_484 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32_479 : BitVec 32 := 2#32
  let v553 : BitVec 32 := Scalar.addi v2 c2_i32_479
  let c32_i32_480 : BitVec 32 := 32#32
  let v554 : BitVec 32 := Scalar.remsi v553 c32_i32_480
  let c1_i32_483 : BitVec 32 := 1#32
  let v557 : BitVec 32 := Scalar.muli v554 c1_i32_483
  let v558 : BitVec 32 := Scalar.addi c0_i32_484 v557
  v558.toNat
def k0_dev66 (d0 : Dev nD) : Nat :=
  let c0_i32_492 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32_487 : BitVec 32 := 3#32
  let v561 : BitVec 32 := Scalar.addi v2 c3_i32_487
  let c32_i32_488 : BitVec 32 := 32#32
  let v562 : BitVec 32 := Scalar.remsi v561 c32_i32_488
  let c1_i32_491 : BitVec 32 := 1#32
  let v565 : BitVec 32 := Scalar.muli v562 c1_i32_491
  let v566 : BitVec 32 := Scalar.addi c0_i32_492 v565
  v566.toNat
def k0_dev67 (d0 : Dev nD) : Nat :=
  let c0_i32_500 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32_495 : BitVec 32 := 4#32
  let v569 : BitVec 32 := Scalar.addi v2 c4_i32_495
  let c32_i32_496 : BitVec 32 := 32#32
  let v570 : BitVec 32 := Scalar.remsi v569 c32_i32_496
  let c1_i32_499 : BitVec 32 := 1#32
  let v573 : BitVec 32 := Scalar.muli v570 c1_i32_499
  let v574 : BitVec 32 := Scalar.addi c0_i32_500 v573
  v574.toNat
def k0_dev68 (d0 : Dev nD) : Nat :=
  let c0_i32_508 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c5_i32_503 : BitVec 32 := 5#32
  let v577 : BitVec 32 := Scalar.addi v2 c5_i32_503
  let c32_i32_504 : BitVec 32 := 32#32
  let v578 : BitVec 32 := Scalar.remsi v577 c32_i32_504
  let c1_i32_507 : BitVec 32 := 1#32
  let v581 : BitVec 32 := Scalar.muli v578 c1_i32_507
  let v582 : BitVec 32 := Scalar.addi c0_i32_508 v581
  v582.toNat
def k0_dev69 (d0 : Dev nD) : Nat :=
  let c0_i32_516 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c6_i32_511 : BitVec 32 := 6#32
  let v585 : BitVec 32 := Scalar.addi v2 c6_i32_511
  let c32_i32_512 : BitVec 32 := 32#32
  let v586 : BitVec 32 := Scalar.remsi v585 c32_i32_512
  let c1_i32_515 : BitVec 32 := 1#32
  let v589 : BitVec 32 := Scalar.muli v586 c1_i32_515
  let v590 : BitVec 32 := Scalar.addi c0_i32_516 v589
  v590.toNat
def k0_dev70 (d0 : Dev nD) : Nat :=
  let c0_i32_524 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c7_i32_519 : BitVec 32 := 7#32
  let v593 : BitVec 32 := Scalar.addi v2 c7_i32_519
  let c32_i32_520 : BitVec 32 := 32#32
  let v594 : BitVec 32 := Scalar.remsi v593 c32_i32_520
  let c1_i32_523 : BitVec 32 := 1#32
  let v597 : BitVec 32 := Scalar.muli v594 c1_i32_523
  let v598 : BitVec 32 := Scalar.addi c0_i32_524 v597
  v598.toNat
def k0_dev71 (d0 : Dev nD) : Nat :=
  let c0_i32_532 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_527 : BitVec 32 := 8#32
  let v601 : BitVec 32 := Scalar.addi v2 c8_i32_527
  let c32_i32_528 : BitVec 32 := 32#32
  let v602 : BitVec 32 := Scalar.remsi v601 c32_i32_528
  let c1_i32_531 : BitVec 32 := 1#32
  let v605 : BitVec 32 := Scalar.muli v602 c1_i32_531
  let v606 : BitVec 32 := Scalar.addi c0_i32_532 v605
  v606.toNat
def k0_dev72 (d0 : Dev nD) : Nat :=
  let c0_i32_540 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c9_i32_535 : BitVec 32 := 9#32
  let v609 : BitVec 32 := Scalar.addi v2 c9_i32_535
  let c32_i32_536 : BitVec 32 := 32#32
  let v610 : BitVec 32 := Scalar.remsi v609 c32_i32_536
  let c1_i32_539 : BitVec 32 := 1#32
  let v613 : BitVec 32 := Scalar.muli v610 c1_i32_539
  let v614 : BitVec 32 := Scalar.addi c0_i32_540 v613
  v614.toNat
def k0_dev73 (d0 : Dev nD) : Nat :=
  let c0_i32_548 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c10_i32_543 : BitVec 32 := 10#32
  let v617 : BitVec 32 := Scalar.addi v2 c10_i32_543
  let c32_i32_544 : BitVec 32 := 32#32
  let v618 : BitVec 32 := Scalar.remsi v617 c32_i32_544
  let c1_i32_547 : BitVec 32 := 1#32
  let v621 : BitVec 32 := Scalar.muli v618 c1_i32_547
  let v622 : BitVec 32 := Scalar.addi c0_i32_548 v621
  v622.toNat
def k0_dev74 (d0 : Dev nD) : Nat :=
  let c0_i32_556 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c11_i32_551 : BitVec 32 := 11#32
  let v625 : BitVec 32 := Scalar.addi v2 c11_i32_551
  let c32_i32_552 : BitVec 32 := 32#32
  let v626 : BitVec 32 := Scalar.remsi v625 c32_i32_552
  let c1_i32_555 : BitVec 32 := 1#32
  let v629 : BitVec 32 := Scalar.muli v626 c1_i32_555
  let v630 : BitVec 32 := Scalar.addi c0_i32_556 v629
  v630.toNat
def k0_dev75 (d0 : Dev nD) : Nat :=
  let c0_i32_564 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c12_i32_559 : BitVec 32 := 12#32
  let v633 : BitVec 32 := Scalar.addi v2 c12_i32_559
  let c32_i32_560 : BitVec 32 := 32#32
  let v634 : BitVec 32 := Scalar.remsi v633 c32_i32_560
  let c1_i32_563 : BitVec 32 := 1#32
  let v637 : BitVec 32 := Scalar.muli v634 c1_i32_563
  let v638 : BitVec 32 := Scalar.addi c0_i32_564 v637
  v638.toNat
def k0_dev76 (d0 : Dev nD) : Nat :=
  let c0_i32_572 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c13_i32_567 : BitVec 32 := 13#32
  let v641 : BitVec 32 := Scalar.addi v2 c13_i32_567
  let c32_i32_568 : BitVec 32 := 32#32
  let v642 : BitVec 32 := Scalar.remsi v641 c32_i32_568
  let c1_i32_571 : BitVec 32 := 1#32
  let v645 : BitVec 32 := Scalar.muli v642 c1_i32_571
  let v646 : BitVec 32 := Scalar.addi c0_i32_572 v645
  v646.toNat
def k0_dev77 (d0 : Dev nD) : Nat :=
  let c0_i32_580 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c14_i32_575 : BitVec 32 := 14#32
  let v649 : BitVec 32 := Scalar.addi v2 c14_i32_575
  let c32_i32_576 : BitVec 32 := 32#32
  let v650 : BitVec 32 := Scalar.remsi v649 c32_i32_576
  let c1_i32_579 : BitVec 32 := 1#32
  let v653 : BitVec 32 := Scalar.muli v650 c1_i32_579
  let v654 : BitVec 32 := Scalar.addi c0_i32_580 v653
  v654.toNat
def k0_dev78 (d0 : Dev nD) : Nat :=
  let c0_i32_588 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c15_i32_583 : BitVec 32 := 15#32
  let v657 : BitVec 32 := Scalar.addi v2 c15_i32_583
  let c32_i32_584 : BitVec 32 := 32#32
  let v658 : BitVec 32 := Scalar.remsi v657 c32_i32_584
  let c1_i32_587 : BitVec 32 := 1#32
  let v661 : BitVec 32 := Scalar.muli v658 c1_i32_587
  let v662 : BitVec 32 := Scalar.addi c0_i32_588 v661
  v662.toNat
def k0_dev79 (d0 : Dev nD) : Nat :=
  let c0_i32_596 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32_591 : BitVec 32 := 16#32
  let v665 : BitVec 32 := Scalar.addi v2 c16_i32_591
  let c32_i32_592 : BitVec 32 := 32#32
  let v666 : BitVec 32 := Scalar.remsi v665 c32_i32_592
  let c1_i32_595 : BitVec 32 := 1#32
  let v669 : BitVec 32 := Scalar.muli v666 c1_i32_595
  let v670 : BitVec 32 := Scalar.addi c0_i32_596 v669
  v670.toNat
def k0_dev80 (d0 : Dev nD) : Nat :=
  let c0_i32_604 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c17_i32_599 : BitVec 32 := 17#32
  let v673 : BitVec 32 := Scalar.addi v2 c17_i32_599
  let c32_i32_600 : BitVec 32 := 32#32
  let v674 : BitVec 32 := Scalar.remsi v673 c32_i32_600
  let c1_i32_603 : BitVec 32 := 1#32
  let v677 : BitVec 32 := Scalar.muli v674 c1_i32_603
  let v678 : BitVec 32 := Scalar.addi c0_i32_604 v677
  v678.toNat
def k0_dev81 (d0 : Dev nD) : Nat :=
  let c0_i32_612 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c18_i32_607 : BitVec 32 := 18#32
  let v681 : BitVec 32 := Scalar.addi v2 c18_i32_607
  let c32_i32_608 : BitVec 32 := 32#32
  let v682 : BitVec 32 := Scalar.remsi v681 c32_i32_608
  let c1_i32_611 : BitVec 32 := 1#32
  let v685 : BitVec 32 := Scalar.muli v682 c1_i32_611
  let v686 : BitVec 32 := Scalar.addi c0_i32_612 v685
  v686.toNat
def k0_dev82 (d0 : Dev nD) : Nat :=
  let c0_i32_620 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c19_i32_615 : BitVec 32 := 19#32
  let v689 : BitVec 32 := Scalar.addi v2 c19_i32_615
  let c32_i32_616 : BitVec 32 := 32#32
  let v690 : BitVec 32 := Scalar.remsi v689 c32_i32_616
  let c1_i32_619 : BitVec 32 := 1#32
  let v693 : BitVec 32 := Scalar.muli v690 c1_i32_619
  let v694 : BitVec 32 := Scalar.addi c0_i32_620 v693
  v694.toNat
def k0_dev83 (d0 : Dev nD) : Nat :=
  let c0_i32_628 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c20_i32_623 : BitVec 32 := 20#32
  let v697 : BitVec 32 := Scalar.addi v2 c20_i32_623
  let c32_i32_624 : BitVec 32 := 32#32
  let v698 : BitVec 32 := Scalar.remsi v697 c32_i32_624
  let c1_i32_627 : BitVec 32 := 1#32
  let v701 : BitVec 32 := Scalar.muli v698 c1_i32_627
  let v702 : BitVec 32 := Scalar.addi c0_i32_628 v701
  v702.toNat
def k0_dev84 (d0 : Dev nD) : Nat :=
  let c0_i32_636 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c21_i32_631 : BitVec 32 := 21#32
  let v705 : BitVec 32 := Scalar.addi v2 c21_i32_631
  let c32_i32_632 : BitVec 32 := 32#32
  let v706 : BitVec 32 := Scalar.remsi v705 c32_i32_632
  let c1_i32_635 : BitVec 32 := 1#32
  let v709 : BitVec 32 := Scalar.muli v706 c1_i32_635
  let v710 : BitVec 32 := Scalar.addi c0_i32_636 v709
  v710.toNat
def k0_dev85 (d0 : Dev nD) : Nat :=
  let c0_i32_644 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c22_i32_639 : BitVec 32 := 22#32
  let v713 : BitVec 32 := Scalar.addi v2 c22_i32_639
  let c32_i32_640 : BitVec 32 := 32#32
  let v714 : BitVec 32 := Scalar.remsi v713 c32_i32_640
  let c1_i32_643 : BitVec 32 := 1#32
  let v717 : BitVec 32 := Scalar.muli v714 c1_i32_643
  let v718 : BitVec 32 := Scalar.addi c0_i32_644 v717
  v718.toNat
def k0_dev86 (d0 : Dev nD) : Nat :=
  let c0_i32_652 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c23_i32_647 : BitVec 32 := 23#32
  let v721 : BitVec 32 := Scalar.addi v2 c23_i32_647
  let c32_i32_648 : BitVec 32 := 32#32
  let v722 : BitVec 32 := Scalar.remsi v721 c32_i32_648
  let c1_i32_651 : BitVec 32 := 1#32
  let v725 : BitVec 32 := Scalar.muli v722 c1_i32_651
  let v726 : BitVec 32 := Scalar.addi c0_i32_652 v725
  v726.toNat
def k0_dev87 (d0 : Dev nD) : Nat :=
  let c0_i32_660 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c24_i32_655 : BitVec 32 := 24#32
  let v729 : BitVec 32 := Scalar.addi v2 c24_i32_655
  let c32_i32_656 : BitVec 32 := 32#32
  let v730 : BitVec 32 := Scalar.remsi v729 c32_i32_656
  let c1_i32_659 : BitVec 32 := 1#32
  let v733 : BitVec 32 := Scalar.muli v730 c1_i32_659
  let v734 : BitVec 32 := Scalar.addi c0_i32_660 v733
  v734.toNat
def k0_dev88 (d0 : Dev nD) : Nat :=
  let c0_i32_668 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c25_i32_663 : BitVec 32 := 25#32
  let v737 : BitVec 32 := Scalar.addi v2 c25_i32_663
  let c32_i32_664 : BitVec 32 := 32#32
  let v738 : BitVec 32 := Scalar.remsi v737 c32_i32_664
  let c1_i32_667 : BitVec 32 := 1#32
  let v741 : BitVec 32 := Scalar.muli v738 c1_i32_667
  let v742 : BitVec 32 := Scalar.addi c0_i32_668 v741
  v742.toNat
def k0_dev89 (d0 : Dev nD) : Nat :=
  let c0_i32_676 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c26_i32_671 : BitVec 32 := 26#32
  let v745 : BitVec 32 := Scalar.addi v2 c26_i32_671
  let c32_i32_672 : BitVec 32 := 32#32
  let v746 : BitVec 32 := Scalar.remsi v745 c32_i32_672
  let c1_i32_675 : BitVec 32 := 1#32
  let v749 : BitVec 32 := Scalar.muli v746 c1_i32_675
  let v750 : BitVec 32 := Scalar.addi c0_i32_676 v749
  v750.toNat
def k0_dev90 (d0 : Dev nD) : Nat :=
  let c0_i32_684 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c27_i32_679 : BitVec 32 := 27#32
  let v753 : BitVec 32 := Scalar.addi v2 c27_i32_679
  let c32_i32_680 : BitVec 32 := 32#32
  let v754 : BitVec 32 := Scalar.remsi v753 c32_i32_680
  let c1_i32_683 : BitVec 32 := 1#32
  let v757 : BitVec 32 := Scalar.muli v754 c1_i32_683
  let v758 : BitVec 32 := Scalar.addi c0_i32_684 v757
  v758.toNat
def k0_dev91 (d0 : Dev nD) : Nat :=
  let c0_i32_692 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c28_i32_687 : BitVec 32 := 28#32
  let v761 : BitVec 32 := Scalar.addi v2 c28_i32_687
  let c32_i32_688 : BitVec 32 := 32#32
  let v762 : BitVec 32 := Scalar.remsi v761 c32_i32_688
  let c1_i32_691 : BitVec 32 := 1#32
  let v765 : BitVec 32 := Scalar.muli v762 c1_i32_691
  let v766 : BitVec 32 := Scalar.addi c0_i32_692 v765
  v766.toNat
def k0_dev92 (d0 : Dev nD) : Nat :=
  let c0_i32_700 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c29_i32_695 : BitVec 32 := 29#32
  let v769 : BitVec 32 := Scalar.addi v2 c29_i32_695
  let c32_i32_696 : BitVec 32 := 32#32
  let v770 : BitVec 32 := Scalar.remsi v769 c32_i32_696
  let c1_i32_699 : BitVec 32 := 1#32
  let v773 : BitVec 32 := Scalar.muli v770 c1_i32_699
  let v774 : BitVec 32 := Scalar.addi c0_i32_700 v773
  v774.toNat
def k0_dev93 (d0 : Dev nD) : Nat :=
  let c0_i32_708 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c30_i32_703 : BitVec 32 := 30#32
  let v777 : BitVec 32 := Scalar.addi v2 c30_i32_703
  let c32_i32_704 : BitVec 32 := 32#32
  let v778 : BitVec 32 := Scalar.remsi v777 c32_i32_704
  let c1_i32_707 : BitVec 32 := 1#32
  let v781 : BitVec 32 := Scalar.muli v778 c1_i32_707
  let v782 : BitVec 32 := Scalar.addi c0_i32_708 v781
  v782.toNat
def k0_dev94 (d0 : Dev nD) : Nat :=
  let c0_i32_716 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c31_i32_711 : BitVec 32 := 31#32
  let v785 : BitVec 32 := Scalar.addi v2 c31_i32_711
  let c32_i32_712 : BitVec 32 := 32#32
  let v786 : BitVec 32 := Scalar.remsi v785 c32_i32_712
  let c1_i32_715 : BitVec 32 := 1#32
  let v789 : BitVec 32 := Scalar.muli v786 c1_i32_715
  let v790 : BitVec 32 := Scalar.addi c0_i32_716 v789
  v790.toNat
abbrev stage0_0 : Fin 1 → Memref sig .tc .vmem S512x512 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S512x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S512x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1024x512 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S512x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
-- ==== ReferenceIdeal.lean ====
abbrev S512x512 : Shape := ⟨2, ![512, 512]⟩
abbrev S512x32768 : Shape := ⟨2, ![512, 32768]⟩
abbrev S32768x512 : Shape := ⟨2, ![32768, 512]⟩
abbrev S_ : Shape := ⟨0, ![]⟩

abbrev nBuf : Space → Nat
  | .hbm => 18
  | .vmem => 0
  | .smem => 0
  | _ => 0

abbrev bufTy : (tb : Table) → Fin (tcTables nBuf tb) → BufTy
  | .hbm, ⟨0, _⟩ => ⟨S512x512, .bf16⟩
  | .hbm, ⟨1, _⟩ => ⟨S512x32768, .bf16⟩
  | .hbm, ⟨2, _⟩ => ⟨S512x32768, .bf16⟩
  | .hbm, ⟨3, _⟩ => ⟨S32768x512, .bf16⟩
  | .hbm, ⟨4, _⟩ => ⟨S512x32768, .f32⟩
  | .hbm, ⟨5, _⟩ => ⟨S512x32768, .bf16⟩
  | .hbm, ⟨6, _⟩ => ⟨S512x32768, .f32⟩
  | .hbm, ⟨7, _⟩ => ⟨S512x32768, .bf16⟩
  | .hbm, ⟨8, _⟩ => ⟨S512x32768, .bf16⟩
  | .hbm, ⟨9, _⟩ => ⟨S512x32768, .bf16⟩
  | .hbm, ⟨10, _⟩ => ⟨S_, .bf16⟩
  | .hbm, ⟨11, _⟩ => ⟨S512x32768, .bf16⟩
  | .hbm, ⟨12, _⟩ => ⟨S512x32768, .bf16⟩
  | .hbm, ⟨13, _⟩ => ⟨S512x32768, .bf16⟩
  | .hbm, ⟨14, _⟩ => ⟨S512x32768, .bf16⟩
  | .hbm, ⟨15, _⟩ => ⟨S512x512, .f32⟩
  | .hbm, ⟨16, _⟩ => ⟨S512x512, .bf16⟩
  | .hbm, ⟨17, _⟩ => ⟨S512x512, .f32⟩
  | _, _ => ⟨S512x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_cst : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩

abbrev nD : Nat := 1
abbrev τ : Topo := Topo.v7x

variable {F : FTy → Type} [FloatOps F]
-- ==== Proof.Gated.lean ====
/-
# The gated product over the extended reals

One entry of a gated product: for row `r` of `x` and column `k` of the two weight matrices, the product of the gate's
entry with the up projection's entry times its logistic. The same value written as a quotient by one plus an exponential.
-/
module

public import Idealize.ShloMosaic.PureOps.Ideal.Laws
public import Idealize.ShloMosaic.Lib.ValueIdxCore
public import Idealize.ShloMosaic.Lib.Layout
public import Idealize.ShloMosaic.Lib.Pointwise.Sums

@[expose] public section

noncomputable section

namespace Cert.FusedMlp

open Idealize.ShloMosaic hiding ix2
open Idealize.ShloMosaic.ValueIdx
open scoped BigOperators

/-- A matrix of extended reals. -/
abbrev Mat (a b : ℕ) : Type := (⟨2, ![a, b]⟩ : Shape).Idx → EReal

/-- Row `r` of `x` times column `k` of `w`. -/
def proj {M D N : ℕ} (x : Mat M D) (w : Mat D N) (r : Fin M) (k : Fin N) : EReal := ∑ e : Fin D, x (ix2 r e) * w (ix2 e k)

/-- A gate's entry times the up projection's entry times its logistic. -/
def act (g u : EReal) : EReal := g * (u * Ideal.logistic u)

/-- The gated product at row `r`, column `n`. -/
def gated {M D N P : ℕ} (x : Mat M D) (g u : Mat D N) (d : Mat N P) (r : Fin M) (n : Fin P) : EReal :=
  ∑ k : Fin N, act (proj x g r k) (proj x u r k) * d (ix2 k n)

theorem exp_nonneg (y : EReal) : 0 ≤ Ideal.exp y := by
  induction y using EReal.rec with
  | bot => exact le_refl _
  | top => exact le_top
  | coe r => exact EReal.coe_nonneg.mpr (Real.exp_pos r).le

/-- A value times its logistic is the value divided by one plus the exponential of its negative. -/
theorem mul_logistic (u : EReal) : u * Ideal.logistic u = Ideal.div u (1 + Ideal.exp (-u)) := by
  have h : (1 : EReal) + Ideal.exp (-u) ≠ 0 := by
    have h1 : (0 : EReal) < 1 + Ideal.exp (-u) := lt_of_lt_of_le zero_lt_one (le_add_of_nonneg_right (exp_nonneg _))
    exact h1.ne'
  unfold Ideal.logistic Ideal.div
  rw [if_neg h, if_neg h, one_mul]

/-- A gated product over `K * N` columns is the sum of the gated products over the `K` blocks of `N` columns. -/
theorem gated_blocks {M D P K N T : ℕ} (hT : K * N = T) (x : Mat M D) (g u : Mat D T) (d : Mat T P) (gs us : Fin K → Mat D N) (ds : Fin K → Mat N P)
    (hg : ∀ (t : Fin K) (k : Fin N) (K' : Fin T), K'.val = t.val * N + k.val → ∀ e, gs t (ix2 e k) = g (ix2 e K'))
    (hu : ∀ (t : Fin K) (k : Fin N) (K' : Fin T), K'.val = t.val * N + k.val → ∀ e, us t (ix2 e k) = u (ix2 e K'))
    (hd : ∀ (t : Fin K) (k : Fin N) (K' : Fin T), K'.val = t.val * N + k.val → ∀ n, ds t (ix2 k n) = d (ix2 K' n))
    (r : Fin M) (n : Fin P) :
    ∑ t : Fin K, gated x (gs t) (us t) (ds t) r n = gated x g u d r n := by
  unfold gated
  rw [Fin.sum_univ_tiles K N hT]
  refine Finset.sum_congr rfl fun t _ => Finset.sum_congr rfl fun k _ => ?_
  have hb : t.val * N + k.val < T := by
    have ht := t.isLt; have hk := k.isLt
    calc t.val * N + k.val < t.val * N + N := by omega
      _ = (t.val + 1) * N := by rw [Nat.add_mul, Nat.one_mul]
      _ ≤ K * N := Nat.mul_le_mul_right _ (by omega)
      _ = T := hT
  unfold proj
  simp only [hg t k ⟨_, hb⟩ rfl, hu t k ⟨_, hb⟩ rfl, hd t k ⟨_, hb⟩ rfl]

end Cert.FusedMlp

end
-- ==== Proof.Program.lean ====
/-
# The kernel's body as a short program with loops

The body is printed as some 340 operations in a row.  They are eight loops over the 32 devices and a few loads and
stores.  Here the body is written with those loops, and shown to be that program: first in the nesting of the printed
parts, then flat.  Everything about its runs is proved of the flat form.
-/
module

public import proofs.«01_k».proof.Proof.Gen.KernelIdeal.Skeleton
public import proofs.«01_k».proof.Proof.Gen.KernelIdeal.Points
public import proofs.«01_k».proof.Proof.Gen.KernelIdeal.Launch
public import Idealize.ShloMosaic.Lib.Pipeline.Regions

@[expose] public section

noncomputable section

namespace Cert.FusedMlp

open Cert.KernelIdeal Cert.KernelIdeal.Gen
open Idealize.ShloMosaic Idealize.SL.Sem

variable {F : FTy → Type} [FloatOps F]

/-- The operations of a TensorCore's program. -/
abbrev Ops (F : FTy → Type) : Type → Type _ := TpuEff nD τ sig (Elt F) Λ₀ .tc

/-! ## Loops -/

section Loops
universe v
variable {E : Type → Type v} {α β : Type}

/-- Run the programs of a list one after another, then `k`. -/
def runAll : List (Prog E PUnit) → Prog E α → Prog E α
  | [], k => k
  | p :: ps, k => p >>= fun _ => runAll ps k

theorem runAll_bind (l : List (Prog E PUnit)) (k : Prog E α) (f : α → Prog E β) :
    (runAll l k >>= f) = runAll l (k >>= f) := by
  induction l with
  | nil => rfl
  | cons p ps ih => rw [runAll, runAll, Prog.bind_assoc]; simp only [ih]

theorem runAll_runAll (l l' : List (Prog E PUnit)) (k : Prog E α) : runAll l (runAll l' k) = runAll (l ++ l') k := by
  induction l with
  | nil => rfl
  | cons p ps ih => rw [runAll, List.cons_append, runAll, ih]

/-- Run `n` programs one after another and hand what they answer, as a family, to `k`. -/
def readAll : (n : ℕ) → (Fin n → Prog E β) → ((Fin n → β) → Prog E α) → Prog E α
  | 0, _, k => k Fin.elim0
  | n + 1, p, k => p 0 >>= fun v => readAll n (fun i => p i.succ) fun w => k (Fin.cons v w)

theorem readAll_bind (n : ℕ) (p : Fin n → Prog E β) (k : (Fin n → β) → Prog E α) {γ : Type} (f : α → Prog E γ) :
    (readAll n p k >>= f) = readAll n p fun w => k w >>= f := by
  induction n with
  | zero => rfl
  | succ n ih => rw [readAll, readAll, Prog.bind_assoc]; simp only [ih]

end Loops

/-! ## The buffers and semaphores -/

abbrev xM : Memref sig .tc .vmem S512x512 .bf16 := Memref.whole cc0_stg0_0
abbrev gM : Memref sig .tc .vmem S512x1024 .bf16 := Memref.whole cc0_stg1_0
abbrev uM : Memref sig .tc .vmem S512x1024 .bf16 := Memref.whole cc0_stg2_0
abbrev dM : Memref sig .tc .vmem S1024x512 .bf16 := Memref.whole cc0_stg3_0
abbrev oM : Memref sig .tc .vmem S512x512 .f32 := Memref.whole cc0_stg4_0
/-- A device's own partial product, of which it sends 16 rows to each device. -/
abbrev sM : Memref sig .tc .vmem S512x512 .bf16 := Memref.whole cc0_scratch0
/-- The 16-row pieces of partial products a device receives, one slot per sender. -/
abbrev rM : Memref sig .tc .vmem S512x512 .bf16 := Memref.whole cc0_scratch1
/-- The reduced rows, one slot per device. -/
abbrev aM : Memref sig .tc .vmem S512x512 .bf16 := Memref.whole cc0_scratch2

abbrev barS : Sem sig := (SemArray.scalar (sig.barrier 0 rfl) : Sems sig S_).sem
abbrev rsSendS : DmaSem sig := cc0_scratch3.sem
abbrev rsRecvS : DmaSem sig := cc0_scratch4.sem
abbrev agSendS : DmaSem sig := cc0_scratch5.sem
abbrev agRecvS : DmaSem sig := cc0_scratch6.sem

/-! ## Slots: the 16 rows of a 512-row buffer that belong to one device -/

set_option backward.proofsInPublic true in
theorem slot_inb (t : Fin 32) : ∀ a, (![16 * t.val, 0] : Fin 2 → Nat) a + S16x512.size a ≤ S512x512.size a := by
  revert t; decide +kernel
abbrev slotR (t : Fin 32) : Rect S512x512 := Rect.unit (s := S512x512) ![16 * t.val, 0] S16x512.size (slot_inb t)
theorem slot_words (t : Fin 32) : (slotR t).WholeWords (EltTy.packing .bf16) := by
  revert t; decide +kernel
theorem slot_packed (t : Fin 32) : (slotR t).PackedRows (EltTy.packing .bf16) := by
  revert t; decide +kernel
abbrev slotM (M : Memref sig .tc .vmem S512x512 .bf16) (t : Fin 32) : Memref sig .tc .vmem S16x512 .bf16 :=
  M.slice (slotR t) (fun _ => rfl)

/-- Device `c`'s own slot, by the offsets the copies compute, and by those the loads and stores compute. -/
abbrev ownR (c : Dev nD) : Rect S512x512 := Rect.unit (s := S512x512) (k0_off34 c) S16x512.size (k0_off34_inb c)
abbrev ownR' (c : Dev nD) : Rect S512x512 := Rect.unit (s := S512x512) (k0_off33 c) S16x512.size (k0_off33_inb c)
abbrev ownM (M : Memref sig .tc .vmem S512x512 .bf16) (c : Dev nD) : Memref sig .tc .vmem S16x512 .bf16 :=
  M.slice (ownR c) (fun _ => rfl)

theorem whole_slot {M : Memref sig .tc .vmem S512x512 .bf16} (hM : M.IsWhole) (t : Fin 32) : (slotM M t).view.WordExact :=
  hM.wordExact_slice rfl _ (slot_words t)
theorem whole_own {M : Memref sig .tc .vmem S512x512 .bf16} (hM : M.IsWhole) (c : Dev nD) : (ownM M c).view.WordExact :=
  hM.wordExact_slice rfl _ (k0_off34_wordsbf16 c)

/-! ## The tables of the computed devices and offsets -/

/-- The devices `c` signals, in order. -/
def sigDevs (c : Dev nD) : List (Dev nD) :=
  [⟨k0_dev1 c, k0_dev1_lt c⟩, ⟨k0_dev2 c, k0_dev2_lt c⟩, ⟨k0_dev3 c, k0_dev3_lt c⟩, ⟨k0_dev4 c, k0_dev4_lt c⟩, ⟨k0_dev5 c, k0_dev5_lt c⟩,
    ⟨k0_dev6 c, k0_dev6_lt c⟩, ⟨k0_dev7 c, k0_dev7_lt c⟩, ⟨k0_dev8 c, k0_dev8_lt c⟩, ⟨k0_dev9 c, k0_dev9_lt c⟩, ⟨k0_dev10 c, k0_dev10_lt c⟩,
    ⟨k0_dev11 c, k0_dev11_lt c⟩, ⟨k0_dev12 c, k0_dev12_lt c⟩, ⟨k0_dev13 c, k0_dev13_lt c⟩, ⟨k0_dev14 c, k0_dev14_lt c⟩, ⟨k0_dev15 c, k0_dev15_lt c⟩,
    ⟨k0_dev16 c, k0_dev16_lt c⟩, ⟨k0_dev17 c, k0_dev17_lt c⟩, ⟨k0_dev18 c, k0_dev18_lt c⟩, ⟨k0_dev19 c, k0_dev19_lt c⟩, ⟨k0_dev20 c, k0_dev20_lt c⟩,
    ⟨k0_dev21 c, k0_dev21_lt c⟩, ⟨k0_dev22 c, k0_dev22_lt c⟩, ⟨k0_dev23 c, k0_dev23_lt c⟩, ⟨k0_dev24 c, k0_dev24_lt c⟩, ⟨k0_dev25 c, k0_dev25_lt c⟩,
    ⟨k0_dev26 c, k0_dev26_lt c⟩, ⟨k0_dev27 c, k0_dev27_lt c⟩, ⟨k0_dev28 c, k0_dev28_lt c⟩, ⟨k0_dev29 c, k0_dev29_lt c⟩, ⟨k0_dev30 c, k0_dev30_lt c⟩,
    ⟨k0_dev31 c, k0_dev31_lt c⟩]

/-- The devices `c` sends its reduced rows to, in order. -/
def agDevs (c : Dev nD) : List (Dev nD) :=
  [⟨k0_dev64 c, k0_dev64_lt c⟩, ⟨k0_dev65 c, k0_dev65_lt c⟩, ⟨k0_dev66 c, k0_dev66_lt c⟩, ⟨k0_dev67 c, k0_dev67_lt c⟩, ⟨k0_dev68 c, k0_dev68_lt c⟩,
    ⟨k0_dev69 c, k0_dev69_lt c⟩, ⟨k0_dev70 c, k0_dev70_lt c⟩, ⟨k0_dev71 c, k0_dev71_lt c⟩, ⟨k0_dev72 c, k0_dev72_lt c⟩, ⟨k0_dev73 c, k0_dev73_lt c⟩,
    ⟨k0_dev74 c, k0_dev74_lt c⟩, ⟨k0_dev75 c, k0_dev75_lt c⟩, ⟨k0_dev76 c, k0_dev76_lt c⟩, ⟨k0_dev77 c, k0_dev77_lt c⟩, ⟨k0_dev78 c, k0_dev78_lt c⟩,
    ⟨k0_dev79 c, k0_dev79_lt c⟩, ⟨k0_dev80 c, k0_dev80_lt c⟩, ⟨k0_dev81 c, k0_dev81_lt c⟩, ⟨k0_dev82 c, k0_dev82_lt c⟩, ⟨k0_dev83 c, k0_dev83_lt c⟩,
    ⟨k0_dev84 c, k0_dev84_lt c⟩, ⟨k0_dev85 c, k0_dev85_lt c⟩, ⟨k0_dev86 c, k0_dev86_lt c⟩, ⟨k0_dev87 c, k0_dev87_lt c⟩, ⟨k0_dev88 c, k0_dev88_lt c⟩,
    ⟨k0_dev89 c, k0_dev89_lt c⟩, ⟨k0_dev90 c, k0_dev90_lt c⟩, ⟨k0_dev91 c, k0_dev91_lt c⟩, ⟨k0_dev92 c, k0_dev92_lt c⟩, ⟨k0_dev93 c, k0_dev93_lt c⟩,
    ⟨k0_dev94 c, k0_dev94_lt c⟩]

/-- A copy made under a condition, as the body computes it: the condition, the device, the slot it lands in. -/
structure Send where
  cond : BitVec 1
  dev : cond = 1#1 → Dev nD
  off : Fin 2 → Nat
  inb : cond = 1#1 → ∀ a, off a + S16x512.size a ≤ S512x512.size a
  words : ∀ h : cond = 1#1, (Rect.unit (s := S512x512) off S16x512.size (inb h)).WholeWords (EltTy.packing .bf16)

/-- The 32 copies of partial products, of the rows of device 0, 1, … in order. -/
def sends (c : Dev nD) : Fin 32 → Send := ![
  ⟨k0_cond1 c, fun h => ⟨k0_dev32, k0_dev32_lt c h⟩, k0_off1 c, k0_off1_inb c, k0_off1_wordsbf16 c⟩,
  ⟨k0_cond2 c, fun h => ⟨k0_dev33, k0_dev33_lt c h⟩, k0_off2 c, k0_off2_inb c, k0_off2_wordsbf16 c⟩,
  ⟨k0_cond3 c, fun h => ⟨k0_dev34, k0_dev34_lt c h⟩, k0_off3 c, k0_off3_inb c, k0_off3_wordsbf16 c⟩,
  ⟨k0_cond4 c, fun h => ⟨k0_dev35, k0_dev35_lt c h⟩, k0_off4 c, k0_off4_inb c, k0_off4_wordsbf16 c⟩,
  ⟨k0_cond5 c, fun h => ⟨k0_dev36, k0_dev36_lt c h⟩, k0_off5 c, k0_off5_inb c, k0_off5_wordsbf16 c⟩,
  ⟨k0_cond6 c, fun h => ⟨k0_dev37, k0_dev37_lt c h⟩, k0_off6 c, k0_off6_inb c, k0_off6_wordsbf16 c⟩,
  ⟨k0_cond7 c, fun h => ⟨k0_dev38, k0_dev38_lt c h⟩, k0_off7 c, k0_off7_inb c, k0_off7_wordsbf16 c⟩,
  ⟨k0_cond8 c, fun h => ⟨k0_dev39, k0_dev39_lt c h⟩, k0_off8 c, k0_off8_inb c, k0_off8_wordsbf16 c⟩,
  ⟨k0_cond9 c, fun h => ⟨k0_dev40, k0_dev40_lt c h⟩, k0_off9 c, k0_off9_inb c, k0_off9_wordsbf16 c⟩,
  ⟨k0_cond10 c, fun h => ⟨k0_dev41, k0_dev41_lt c h⟩, k0_off10 c, k0_off10_inb c, k0_off10_wordsbf16 c⟩,
  ⟨k0_cond11 c, fun h => ⟨k0_dev42, k0_dev42_lt c h⟩, k0_off11 c, k0_off11_inb c, k0_off11_wordsbf16 c⟩,
  ⟨k0_cond12 c, fun h => ⟨k0_dev43, k0_dev43_lt c h⟩, k0_off12 c, k0_off12_inb c, k0_off12_wordsbf16 c⟩,
  ⟨k0_cond13 c, fun h => ⟨k0_dev44, k0_dev44_lt c h⟩, k0_off13 c, k0_off13_inb c, k0_off13_wordsbf16 c⟩,
  ⟨k0_cond14 c, fun h => ⟨k0_dev45, k0_dev45_lt c h⟩, k0_off14 c, k0_off14_inb c, k0_off14_wordsbf16 c⟩,
  ⟨k0_cond15 c, fun h => ⟨k0_dev46, k0_dev46_lt c h⟩, k0_off15 c, k0_off15_inb c, k0_off15_wordsbf16 c⟩,
  ⟨k0_cond16 c, fun h => ⟨k0_dev47, k0_dev47_lt c h⟩, k0_off16 c, k0_off16_inb c, k0_off16_wordsbf16 c⟩,
  ⟨k0_cond17 c, fun h => ⟨k0_dev48, k0_dev48_lt c h⟩, k0_off17 c, k0_off17_inb c, k0_off17_wordsbf16 c⟩,
  ⟨k0_cond18 c, fun h => ⟨k0_dev49, k0_dev49_lt c h⟩, k0_off18 c, k0_off18_inb c, k0_off18_wordsbf16 c⟩,
  ⟨k0_cond19 c, fun h => ⟨k0_dev50, k0_dev50_lt c h⟩, k0_off19 c, k0_off19_inb c, k0_off19_wordsbf16 c⟩,
  ⟨k0_cond20 c, fun h => ⟨k0_dev51, k0_dev51_lt c h⟩, k0_off20 c, k0_off20_inb c, k0_off20_wordsbf16 c⟩,
  ⟨k0_cond21 c, fun h => ⟨k0_dev52, k0_dev52_lt c h⟩, k0_off21 c, k0_off21_inb c, k0_off21_wordsbf16 c⟩,
  ⟨k0_cond22 c, fun h => ⟨k0_dev53, k0_dev53_lt c h⟩, k0_off22 c, k0_off22_inb c, k0_off22_wordsbf16 c⟩,
  ⟨k0_cond23 c, fun h => ⟨k0_dev54, k0_dev54_lt c h⟩, k0_off23 c, k0_off23_inb c, k0_off23_wordsbf16 c⟩,
  ⟨k0_cond24 c, fun h => ⟨k0_dev55, k0_dev55_lt c h⟩, k0_off24 c, k0_off24_inb c, k0_off24_wordsbf16 c⟩,
  ⟨k0_cond25 c, fun h => ⟨k0_dev56, k0_dev56_lt c h⟩, k0_off25 c, k0_off25_inb c, k0_off25_wordsbf16 c⟩,
  ⟨k0_cond26 c, fun h => ⟨k0_dev57, k0_dev57_lt c h⟩, k0_off26 c, k0_off26_inb c, k0_off26_wordsbf16 c⟩,
  ⟨k0_cond27 c, fun h => ⟨k0_dev58, k0_dev58_lt c h⟩, k0_off27 c, k0_off27_inb c, k0_off27_wordsbf16 c⟩,
  ⟨k0_cond28 c, fun h => ⟨k0_dev59, k0_dev59_lt c h⟩, k0_off28 c, k0_off28_inb c, k0_off28_wordsbf16 c⟩,
  ⟨k0_cond29 c, fun h => ⟨k0_dev60, k0_dev60_lt c h⟩, k0_off29 c, k0_off29_inb c, k0_off29_wordsbf16 c⟩,
  ⟨k0_cond30 c, fun h => ⟨k0_dev61, k0_dev61_lt c h⟩, k0_off30 c, k0_off30_inb c, k0_off30_wordsbf16 c⟩,
  ⟨k0_cond31 c, fun h => ⟨k0_dev62, k0_dev62_lt c h⟩, k0_off31 c, k0_off31_inb c, k0_off31_wordsbf16 c⟩,
  ⟨k0_cond32 c, fun h => ⟨k0_dev63, k0_dev63_lt c h⟩, k0_off32 c, k0_off32_inb c, k0_off32_wordsbf16 c⟩]

/-! ## The steps of the loops -/

def sigStep (d : Dev nD) : Prog (Ops F) PUnit := semSignalWord d barS 1#32

/-- Send the rows of device `t` to it, unless `t` is the device itself. -/
def sendStep (t : Fin 32) (s : Send) {α : Type} (k : Prog (Ops F) α) : Prog (Ops F) α :=
  if h : s.cond = 1#1 then
    Prog.lift (.enqueueDma (slotM sM t)
      (.remote (Dev.tc (s.dev h)) (rM.slice (Rect.unit (s := S512x512) s.off S16x512.size (s.inb h)) (fun _ => rfl)) (.dma rsSendS)) (.dma rsRecvS)
      (whole_slot (Memref.isWhole_whole _) t) ((Memref.isWhole_whole cc0_scratch1).wordExact_slice rfl _ (s.words h)) ⟨⟨rfl, Or.inl rfl⟩, trivial⟩) >>= fun _ => k
  else k

/-- The copies of the slots of a list in a row, then `k`. -/
def sendsOf (c : Dev nD) (l : List (Fin 32)) {α : Type} (k : Prog (Ops F) α) : Prog (Ops F) α :=
  match l with
  | [] => k
  | t :: l => sendStep t (sends c t) (sendsOf c l k)

theorem sendStep_bind (t : Fin 32) (s : Send) {α β : Type} (k : Prog (Ops F) α) (f : α → Prog (Ops F) β) :
    (sendStep t s k >>= f) = sendStep t s (k >>= f) := by
  unfold sendStep
  split
  · rw [Prog.bind_assoc]
  · rfl

theorem sendsOf_bind (c : Dev nD) (l : List (Fin 32)) {α β : Type} (k : Prog (Ops F) α) (f : α → Prog (Ops F) β) :
    (sendsOf c l k >>= f) = sendsOf c l (k >>= f) := by
  induction l with
  | nil => rfl
  | cons t l ih => rw [sendsOf, sendsOf, sendStep_bind, ih]

theorem sendsOf_append (c : Dev nD) (l l' : List (Fin 32)) {α : Type} (k : Prog (Ops F) α) :
    sendsOf c l (sendsOf c l' k) = sendsOf c (l ++ l') k := by
  induction l with
  | nil => rfl
  | cons t l ih => rw [sendsOf, List.cons_append, sendsOf, ih]

def rsWait (c : Dev nD) : Prog (Ops F) PUnit :=
  Prog.lift (.waitDma2 rsRecvS (slotM sM 31) (ownM rM c) (whole_slot (Memref.isWhole_whole _) 31) (whole_own (Memref.isWhole_whole _) c))

def agStep (c d : Dev nD) : Prog (Ops F) PUnit :=
  Prog.lift (.enqueueDma (ownM aM c) (.remote (Dev.tc d) (ownM aM c) (.dma agSendS)) (.dma agRecvS)
    (whole_own (Memref.isWhole_whole _) c) (whole_own (Memref.isWhole_whole _) c) ⟨⟨rfl, Or.inl rfl⟩, trivial⟩)

def agWait (c : Dev nD) : Prog (Ops F) PUnit :=
  Prog.lift (.waitDma2 agRecvS (ownM aM c) (ownM aM c) (whole_own (Memref.isWhole_whole _) c) (whole_own (Memref.isWhole_whole _) c))

/-- Wait for one copy of each kind that the device itself has made. -/
def endWait (c : Dev nD) : Prog (Ops F) PUnit := do
  Prog.lift (.waitDma2 rsSendS (ownM rM c) (slotM sM 31) (whole_own (Memref.isWhole_whole _) c) (whole_slot (Memref.isWhole_whole _) 31))
  Prog.lift (.waitDma2 agSendS (ownM aM c) (ownM aM c) (whole_own (Memref.isWhole_whole _) c) (whole_own (Memref.isWhole_whole _) c))

/-- Load slot `t` of the received pieces. -/
def slotLoad (t : Fin 32) : Prog (Ops F) (Vec F S16x512 .bf16) :=
  Prog.lift (.load rM (slotR t).toLoadRect (View.loadsAt_vmem h_S16x512))

/-- The sum of 32 pieces, as the body adds them. -/
def sum32 (w : Fin 32 → Vec F S16x512 .bf16) : FVec F S16x512 .bf16 :=
  k0_pay41 (k0_pay11 (w 0)) (k0_pay11 (w 1)) (k0_pay11 (w 2)) (k0_pay11 (w 3)) (k0_pay11 (w 4)) (k0_pay11 (w 5)) (k0_pay11 (w 6)) (k0_pay11 (w 7)) (k0_pay11 (w 8)) (k0_pay11 (w 9)) (k0_pay11 (w 10)) (k0_pay11 (w 11)) (k0_pay11 (w 12)) (k0_pay11 (w 13)) (k0_pay11 (w 14)) (k0_pay11 (w 15)) (k0_pay11 (w 16)) (k0_pay11 (w 17)) (k0_pay11 (w 18)) (k0_pay11 (w 19)) (k0_pay11 (w 20)) (k0_pay11 (w 21)) (k0_pay11 (w 22)) (k0_pay11 (w 23)) (k0_pay11 (w 24)) (k0_pay11 (w 25)) (k0_pay11 (w 26)) (k0_pay11 (w 27)) (k0_pay11 (w 28)) (k0_pay11 (w 29)) (w 30) (w 31)

/-- The 128-row blocks of the partial product. -/
abbrev blk0 : Rect S512x512 := Rect.unit (s := S512x512) ![0, 0] S128x512.size inb_S512x512_S128x512_0_0
abbrev blk1 : Rect S512x512 := Rect.unit (s := S512x512) ![128, 0] S128x512.size inb_S512x512_S128x512_128_0
abbrev blk2 : Rect S512x512 := Rect.unit (s := S512x512) ![256, 0] S128x512.size inb_S512x512_S128x512_256_0
abbrev blk3 : Rect S512x512 := Rect.unit (s := S512x512) ![384, 0] S128x512.size inb_S512x512_S128x512_384_0

/-- Load a rectangle. -/
def get {S : Shape} (M : Memref sig .tc .vmem S .bf16) (r : Rect S) (hl : 0 < r.shape.numel) : Prog (Ops F) (Vec F r.shape .bf16) :=
  Prog.lift (.load M r.toLoadRect (View.loadsAt_vmem hl))

/-- Store `v` in a rectangle, then `k`: the body first loads what was there, and does not use it. -/
def put (M : Memref sig .tc .vmem S512x512 .bf16) (r : Rect S512x512) (hl : 0 < r.shape.numel) (hs : (M.access r).StoreExact Finset.univ)
    (v : Vec F r.shape .bf16) {α : Type} (k : Prog (Ops F) α) : Prog (Ops F) α :=
  get M r hl >>= fun _ => Prog.lift (.store M r v Finset.univ (View.stores_vmem hl hs (fun _ => rfl)) (.inl rfl)) >>= fun _ => k

theorem store_blk0 : (sM.access blk0).StoreExact Finset.univ := (Memref.isWhole_whole _).storeExact_slice rfl _ packedbf16_S512x512_S128x512_0_0
theorem store_blk1 : (sM.access blk1).StoreExact Finset.univ := (Memref.isWhole_whole _).storeExact_slice rfl _ packedbf16_S512x512_S128x512_128_0
theorem store_blk2 : (sM.access blk2).StoreExact Finset.univ := (Memref.isWhole_whole _).storeExact_slice rfl _ packedbf16_S512x512_S128x512_256_0
theorem store_blk3 : (sM.access blk3).StoreExact Finset.univ := (Memref.isWhole_whole _).storeExact_slice rfl _ packedbf16_S512x512_S128x512_384_0
theorem store_r (c : Dev nD) : (rM.access (ownR' c)).StoreExact Finset.univ := (Memref.isWhole_whole _).storeExact_slice rfl _ (k0_off33_packedbf16 c)
theorem store_a (c : Dev nD) : (aM.access (ownR' c)).StoreExact Finset.univ := (Memref.isWhole_whole _).storeExact_slice rfl _ (k0_off33_packedbf16 c)

abbrev all512 : Rect S512x512 := Rect.unit (s := S512x512) ![0, 0] S512x512.size inb_S512x512_S512x512_0_0
abbrev all1024 : Rect S512x1024 := Rect.unit (s := S512x1024) ![0, 0] S512x1024.size inb_S512x1024_S512x1024_0_0
abbrev allDown : Rect S1024x512 := Rect.unit (s := S1024x512) ![0, 0] S1024x512.size inb_S1024x512_S1024x512_0_0

/-- The four 128-row blocks of a device's partial product, of its inputs as loaded. -/
def part0 (x : Vec F S512x512 .bf16) (g u : Vec F S512x1024 .bf16) (d : Vec F S1024x512 .bf16) : Vec F S128x512 .bf16 := k0_pay5 x g u d
def part1 (x : Vec F S512x512 .bf16) (g u : Vec F S512x1024 .bf16) (d : Vec F S1024x512 .bf16) : Vec F S128x512 .bf16 :=
  k0_pay7 (k0_pay2 g) (k0_pay3 u) (k0_pay4 d) (k0_pay6 (k0_pay1 x)) (constant S128x1024 .f32 0x00000000#32)
def part2 (x : Vec F S512x512 .bf16) (g u : Vec F S512x1024 .bf16) (d : Vec F S1024x512 .bf16) : Vec F S128x512 .bf16 :=
  k0_pay8 (k0_pay1 x) (k0_pay2 g) (k0_pay3 u) (k0_pay4 d)
def part3 (x : Vec F S512x512 .bf16) (g u : Vec F S512x1024 .bf16) (d : Vec F S1024x512 .bf16) : Vec F S128x512 .bf16 :=
  k0_pay9 (k0_pay1 x) (k0_pay2 g) (k0_pay3 u) (k0_pay4 d)

/-! ## The body -/

/-- After the last copy of a partial product: the device's own piece moved across, the pieces of the others waited for,
    all summed and sent round, the sums of the others waited for and the result stored, the copies' ends waited for. -/
def afterSends (c : Dev nD) {α : Type} (k : Prog (Ops F) α) : Prog (Ops F) α :=
  get sM (ownR' c) h_S16x512 >>= fun v => put rM (ownR' c) h_S16x512 (store_r c) (k0_pay10 v) k

def tail (c : Dev nD) (n : ℕ) {α : Type} (k : Prog (Ops F) α) : Prog (Ops F) α :=
  readAll 32 slotLoad fun w =>
  put aM (ownR' c) h_S16x512 (store_a c) (sum32 w) <|
  runAll ((agDevs c).map (agStep c)) <|
  runAll (List.replicate 31 (agWait c)) <|
  get aM all512 h_S512x512 >>= fun v =>
  Prog.lift (.load oM all512.toLoadRect (View.loadsAt_vmem h_S512x512)) >>= fun _ =>
  Prog.lift (.store oM all512 (k0_pay42 v) Finset.univ
    (View.stores_vmem_bits_univ h_S512x512 rfl) (.inl rfl)) >>= fun _ =>
  runAll (List.replicate n (endWait c)) k

/-- The device's number, as the body computes it. -/
def devW (c : Dev nD) : BitVec 32 := Scalar.remsi (Scalar.divsi (Dev.word c) 1#32) 32#32

/-- The body in the nesting of the printed parts. -/
def nested : Prog (Ops F) PUnit :=
  (Prog.lift .deviceId >>= fun c =>
  runAll ((sigDevs c).map sigStep) <|
  get xM all512 h_S512x512 >>= fun x =>
  get gM all1024 h_S512x1024 >>= fun g =>
  get uM all1024 h_S512x1024 >>= fun u =>
  get dM allDown h_S1024x512 >>= fun d =>
  put sM blk0 h_S128x512 store_blk0 (part0 x g u d) <|
  semWaitWord barS 31#32 >>= fun _ =>
  (sendsOf c [0, 1, 2, 3, 4, 5, 6, 7]
    (pure (⟨k0_pay6 (k0_pay1 x), constant S128x1024 .f32 0x00000000#32⟩ : Σ' (_ : FVec F S128x512 .bf16), FVec F S128x1024 .f32))) >>= fun ⟨v, z⟩ =>
  (put sM blk1 h_S128x512 store_blk1 (k0_pay7 (k0_pay2 g) (k0_pay3 u) (k0_pay4 d) v z) <|
    sendsOf c [8, 9, 10, 11, 12] (pure (Scalar.cmpi .ne (devW c) 13#32))) >>= fun _ =>
  (sendsOf c [13, 14, 15] <| put sM blk2 h_S128x512 store_blk2 (part2 x g u d) <|
    sendsOf c [16, 17]
      (pure (⟨Scalar.extui (Scalar.cmpi .ne (devW c) 18#32), 0#32⟩ : Σ' (_ : BitVec 32), BitVec 32))) >>= fun ⟨_, _⟩ =>
  (sendsOf c [18, 19, 20, 21, 22, 23] <| put sM blk3 h_S128x512 store_blk3 (part3 x g u d) (pure PUnit.unit)) >>= fun _ =>
  (sendsOf c [24, 25, 26, 27, 28, 29, 30] (pure (Scalar.cmpi .ne (devW c) 31#32))) >>= fun _ =>
  (sendsOf c [31] <| afterSends c <| runAll (List.replicate 3 (rsWait c)) (pure PUnit.unit)) >>= fun _ =>
  runAll (List.replicate 28 (rsWait c)) (tail c 30 (pure c))) >>= fun c => endWait c >>= fun _ => pure ⟨⟩

set_option maxRecDepth 100000 in
/-- The printed body is the nested one. -/
theorem body_nested : (bodyAt0 t0_0 : Prog (Ops F) PUnit) = nested := by chain_rfl

theorem put_bind (M : Memref sig .tc .vmem S512x512 .bf16) (r : Rect S512x512) (hl : 0 < r.shape.numel)
    (hs : (M.access r).StoreExact Finset.univ) (v : Vec F r.shape .bf16) {α β : Type} (k : Prog (Ops F) α)
    (f : α → Prog (Ops F) β) : (put M r hl hs v k >>= f) = put M r hl hs v (k >>= f) := by
  unfold put
  simp only [Prog.bind_assoc]

/-- The body, flat. -/
def flat : Prog (Ops F) PUnit :=
  Prog.lift .deviceId >>= fun c =>
  runAll ((sigDevs c).map sigStep) <|
  get xM all512 h_S512x512 >>= fun x =>
  get gM all1024 h_S512x1024 >>= fun g =>
  get uM all1024 h_S512x1024 >>= fun u =>
  get dM allDown h_S1024x512 >>= fun d =>
  put sM blk0 h_S128x512 store_blk0 (part0 x g u d) <|
  semWaitWord barS 31#32 >>= fun _ =>
  sendsOf c [0, 1, 2, 3, 4, 5, 6, 7] <|
  put sM blk1 h_S128x512 store_blk1 (part1 x g u d) <|
  sendsOf c [8, 9, 10, 11, 12, 13, 14, 15] <|
  put sM blk2 h_S128x512 store_blk2 (part2 x g u d) <|
  sendsOf c [16, 17, 18, 19, 20, 21, 22, 23] <|
  put sM blk3 h_S128x512 store_blk3 (part3 x g u d) <|
  sendsOf c [24, 25, 26, 27, 28, 29, 30, 31] <|
  afterSends c <|
  runAll (List.replicate 31 (rsWait c)) (tail c 31 (pure ⟨⟩))

theorem nested_flat : (nested : Prog (Ops F) PUnit) = flat := by
  unfold nested flat afterSends tail
  simp only [sendsOf_bind, put_bind, runAll_bind, Prog.bind_assoc, Prog.pure_eq_ret, Prog.bind_ret, runAll_runAll,
    sendsOf_append, readAll_bind, get]
  rfl

/-- The printed body is the flat one. -/
theorem body_flat : (bodyAt0 t0_0 : Prog (Ops F) PUnit) = flat := body_nested.trans nested_flat

end Cert.FusedMlp

end
-- ==== Proof.Tables.lean ====
/-
# What the computed devices and offsets are

The devices a device signals are all the others; copy `t` of its partial product goes to device `t`, unless `t` is the
device itself; and the offset of its own slot is 16 rows for each device before it.  With these facts each step of the
program is rewritten so that it names a device and a slot.
-/
module

public import proofs.«01_k».proof.Proof.Program

@[expose] public section

noncomputable section

namespace Cert.FusedMlp

open Cert.KernelIdeal Cert.KernelIdeal.Gen
open Idealize.ShloMosaic Idealize.SL.Sem

variable {F : FTy → Type} [FloatOps F]

/-- All devices but `c`. -/
abbrev others (c : Dev nD) : Finset (Dev nD) := Finset.univ.erase c

set_option maxRecDepth 100000 in
theorem sigDevs_nodup (c : Dev nD) : (sigDevs c).Nodup := by revert c; decide +kernel
set_option maxRecDepth 100000 in
/-- A device signals every other device once. -/
theorem sigDevs_toFinset (c : Dev nD) : (sigDevs c).toFinset = others c := by revert c; decide +kernel
set_option maxRecDepth 100000 in
theorem agDevs_nodup (c : Dev nD) : (agDevs c).Nodup := by revert c; decide +kernel
set_option maxRecDepth 100000 in
/-- A device sends its reduced rows to every other device once. -/
theorem agDevs_toFinset (c : Dev nD) : (agDevs c).toFinset = others c := by revert c; decide +kernel

set_option maxRecDepth 100000 in
/-- A copy is made unless it would go to the device itself. -/
theorem sends_cond (c : Dev nD) (t : Fin 32) : (sends c t).cond = 1#1 ↔ t ≠ c := by revert c t; decide +kernel
set_option maxRecDepth 100000 in
/-- Copy `t` goes to device `t`. -/
theorem sends_dev (c : Dev nD) (t : Fin 32) (h : (sends c t).cond = 1#1) : (sends c t).dev h = t := by
  revert c t; decide +kernel
set_option maxRecDepth 100000 in
/-- It lands in the slot of the sender. -/
theorem sends_off (c : Dev nD) (t : Fin 32) : (sends c t).off = ![16 * c.val, 0] := by revert c t; decide +kernel

/-- A rectangle of 16 rows at the offset of a slot is the slot. -/
theorem slice_eq_slot (M : Memref sig .tc .vmem S512x512 .bf16) (c : Dev nD) {off : Fin 2 → Nat}
    (ho : off = ![16 * c.val, 0]) (inb : ∀ a, off a + S16x512.size a ≤ S512x512.size a) :
    M.slice (Rect.unit (s := S512x512) off S16x512.size inb) (fun _ => rfl) = slotM M c := by
  subst ho; rfl

theorem ownM_eq (M : Memref sig .tc .vmem S512x512 .bf16) (c : Dev nD) : ownM M c = slotM M c :=
  slice_eq_slot M c (k0_off34_eq c) _

theorem ownR'_eq (c : Dev nD) : ownR' c = slotR c := by
  have h : ∀ (off : Fin 2 → Nat) (inb : ∀ a, off a + S16x512.size a ≤ S512x512.size a), off = ![16 * c.val, 0] →
      Rect.unit (s := S512x512) off S16x512.size inb = slotR c := by
    intro off inb ho; subst ho; rfl
  exact h _ _ (k0_off33_eq c)

/-- The copy of slot `t` of the partial product of `c` to slot `c` of the pieces of device `t`. -/
def rsCopy (c t : Dev nD) : Prog (Ops F) PUnit :=
  Prog.lift (.enqueueDma (slotM sM t) (.remote (Dev.tc t) (slotM rM c) (.dma rsSendS)) (.dma rsRecvS)
    (whole_slot (Memref.isWhole_whole _) t) (whole_slot (Memref.isWhole_whole _) c) ⟨⟨rfl, Or.inl rfl⟩, trivial⟩)

theorem sendStep_self (c : Dev nD) {α : Type} (k : Prog (Ops F) α) : sendStep c (sends c c) k = k := by
  unfold sendStep
  rw [dif_neg fun h => (sends_cond c c).mp h rfl]

theorem sendStep_other {c t : Dev nD} (h : t ≠ c) {α : Type} (k : Prog (Ops F) α) :
    sendStep t (sends c t) k = (rsCopy c t >>= fun _ => k) := by
  have hs : ∀ s : Send, (s.cond = 1#1) → (∀ h, s.dev h = t) → s.off = ![16 * c.val, 0] →
      sendStep t s k = (rsCopy (F := F) c t >>= fun _ => k) := by
    rintro ⟨cond, dev, off, inb, words⟩ hc hd ho
    have hd' : dev = fun _ => t := funext hd
    simp only at hc ho
    subst ho hd'
    unfold sendStep
    rw [dif_pos hc]
    rfl
  exact hs _ ((sends_cond c t).mpr h) (sends_dev c t) (sends_off c t)

/-- The copy of the reduced rows of `c` to device `d`. -/
def agCopy (c d : Dev nD) : Prog (Ops F) PUnit :=
  Prog.lift (.enqueueDma (slotM aM c) (.remote (Dev.tc d) (slotM aM c) (.dma agSendS)) (.dma agRecvS)
    (whole_slot (Memref.isWhole_whole _) c) (whole_slot (Memref.isWhole_whole _) c) ⟨⟨rfl, Or.inl rfl⟩, trivial⟩)

theorem agStep_eq (c d : Dev nD) : (agStep c d : Prog (Ops F) PUnit) = agCopy c d := by
  have h : ∀ (off : Fin 2 → Nat) (inb : ∀ a, off a + S16x512.size a ≤ S512x512.size a)
      (w : (Rect.unit (s := S512x512) off S16x512.size inb).WholeWords (EltTy.packing .bf16)), off = ![16 * c.val, 0] →
      (Prog.lift (.enqueueDma (aM.slice (Rect.unit (s := S512x512) off S16x512.size inb) (fun _ => rfl))
        (.remote (Dev.tc d) (aM.slice (Rect.unit (s := S512x512) off S16x512.size inb) (fun _ => rfl)) (.dma agSendS)) (.dma agRecvS)
        ((Memref.isWhole_whole cc0_scratch2).wordExact_slice rfl _ w) ((Memref.isWhole_whole cc0_scratch2).wordExact_slice rfl _ w)
        ⟨⟨rfl, Or.inl rfl⟩, trivial⟩) : Prog (Ops F) PUnit) = agCopy c d := by
    intro off inb w ho; subst ho; rfl
  exact h _ _ (k0_off34_wordsbf16 c) (k0_off34_eq c)

/-- A wait for the arrival of one copy of a slot; the two memrefs say only how much is waited for. -/
def slotWait (q : DmaSem sig) (A : Memref sig .tc .vmem S512x512 .bf16) (hA : A.IsWhole) (a : Dev nD)
    (B : Memref sig .tc .vmem S512x512 .bf16) (hB : B.IsWhole) (b : Dev nD) : Prog (Ops F) PUnit :=
  Prog.lift (.waitDma2 q (slotM A a) (slotM B b) (whole_slot hA a) (whole_slot hB b))

theorem wait_eq_slotWait (q : DmaSem sig) (A : Memref sig .tc .vmem S512x512 .bf16) (hA : A.IsWhole) (a : Dev nD)
    (B : Memref sig .tc .vmem S512x512 .bf16) (hB : B.IsWhole) (b : Dev nD) {off off' : Fin 2 → Nat}
    (ho : off = ![16 * a.val, 0]) (ho' : off' = ![16 * b.val, 0])
    (inb : ∀ i, off i + S16x512.size i ≤ S512x512.size i) (inb' : ∀ i, off' i + S16x512.size i ≤ S512x512.size i)
    (w : (Rect.unit (s := S512x512) off S16x512.size inb).WholeWords (EltTy.packing .bf16))
    (w' : (Rect.unit (s := S512x512) off' S16x512.size inb').WholeWords (EltTy.packing .bf16)) :
    (Prog.lift (.waitDma2 q (A.slice (Rect.unit (s := S512x512) off S16x512.size inb) (fun _ => rfl))
      (B.slice (Rect.unit (s := S512x512) off' S16x512.size inb') (fun _ => rfl))
      (hA.wordExact_slice rfl _ w) (hB.wordExact_slice rfl _ w')) : Prog (Ops F) PUnit) = slotWait q A hA a B hB b := by
  subst ho ho'; rfl

theorem rsWait_eq (c : Dev nD) : (rsWait c : Prog (Ops F) PUnit)
    = slotWait rsRecvS sM (Memref.isWhole_whole _) 31 rM (Memref.isWhole_whole _) c :=
  wait_eq_slotWait _ _ _ (31 : Fin 32) _ _ c rfl (k0_off34_eq c) _ _ (slot_words 31) (k0_off34_wordsbf16 c)

theorem agWait_eq (c : Dev nD) : (agWait c : Prog (Ops F) PUnit)
    = slotWait agRecvS aM (Memref.isWhole_whole _) c aM (Memref.isWhole_whole _) c :=
  wait_eq_slotWait _ _ _ c _ _ c (k0_off34_eq c) (k0_off34_eq c) _ _ (k0_off34_wordsbf16 c) (k0_off34_wordsbf16 c)

theorem endWait_eq (c : Dev nD) : (endWait c : Prog (Ops F) PUnit)
    = (slotWait rsSendS rM (Memref.isWhole_whole _) c sM (Memref.isWhole_whole _) 31 >>= fun _ =>
      slotWait agSendS aM (Memref.isWhole_whole _) c aM (Memref.isWhole_whole _) c) := by
  have h1 := wait_eq_slotWait (F := F) rsSendS rM (Memref.isWhole_whole _) c sM (Memref.isWhole_whole _) (31 : Fin 32)
    (k0_off34_eq c) rfl _ _ (k0_off34_wordsbf16 c) (slot_words 31)
  have h2 := wait_eq_slotWait (F := F) agSendS aM (Memref.isWhole_whole _) c aM (Memref.isWhole_whole _) c
    (k0_off34_eq c) (k0_off34_eq c) _ _ (k0_off34_wordsbf16 c) (k0_off34_wordsbf16 c)
  rw [← h1, ← h2]; rfl

end Cert.FusedMlp

end
-- ==== Proof.Slots.lean ====
/-
# Slots and blocks of a 512×512 buffer

A buffer of 512 rows is cut into 32 slots of 16 rows, one for each device, and, for the stores of a partial product,
into 4 blocks of 128 rows, each of 8 slots.  Here are the positions in them, and what the four buffers hold at the
stages of the kernel, of the partial products `P` of the 32 devices.
-/
module

public import proofs.«01_k».proof.Proof.Tables

@[expose] public section

noncomputable section

namespace Cert.FusedMlp

open Cert.KernelIdeal Cert.KernelIdeal.Gen
open Idealize.ShloMosaic Idealize.SL.Sem

variable {F : FTy → Type} [FloatOps F]

abbrev Pos : Type := S512x512.Idx

/-- Positions are equal if their rows and columns are. -/
theorem pos_ext {n k : Nat} {i j : (⟨2, ![n, k]⟩ : Shape).Idx} (h0 : (i 0).val = (j 0).val) (h1 : (i 1).val = (j 1).val) : i = j :=
  funext fun a => by
    match a with
    | ⟨0, _⟩ => exact Fin.ext h0
    | ⟨1, _⟩ => exact Fin.ext h1

theorem row_lt {n k : Nat} (i : (⟨2, ![n, k]⟩ : Shape).Idx) : (i 0).val < n := (i 0).isLt
theorem col_lt {n k : Nat} (i : (⟨2, ![n, k]⟩ : Shape).Idx) : (i 1).val < k := (i 1).isLt

/-! ## Slots -/

/-- The slot a position lies in, -/
def slotOf (i : Pos) : Dev nD := ⟨(i 0).val / 16, by have := row_lt i; show _ < 32; omega⟩

/-- and where in the slot. -/
def inSlot (i : Pos) : S16x512.Idx := fun a => match a with
  | ⟨0, _⟩ => ⟨(i 0).val % 16, Nat.mod_lt _ (by decide)⟩
  | ⟨1, _⟩ => ⟨(i 1).val, col_lt i⟩

/-- A position of slot `t`. -/
def slotAt (t : Dev nD) (x : S16x512.Idx) : Pos := (slotR t).emb x

theorem slotAt_row (t : Dev nD) (x : S16x512.Idx) : (slotAt t x 0).val = 16 * t.val + (x 0).val := by
  unfold slotAt
  rw [Rect.emb_apply]
  show 16 * t.val + 1 * (x 0).val = _
  omega

theorem slotAt_col (t : Dev nD) (x : S16x512.Idx) : (slotAt t x 1).val = (x 1).val := by
  unfold slotAt
  rw [Rect.emb_apply]
  show 0 + 1 * (x 1).val = _
  omega

theorem slotOf_slotAt (t : Dev nD) (x : S16x512.Idx) : slotOf (slotAt t x) = t := by
  have h := row_lt x
  refine Fin.ext ?_
  show (slotAt t x 0).val / 16 = t.val
  rw [slotAt_row]; omega

theorem inSlot_slotAt (t : Dev nD) (x : S16x512.Idx) : inSlot (slotAt t x) = x := by
  have h := row_lt x
  refine pos_ext ?_ ?_
  · show (slotAt t x 0).val % 16 = (x 0).val
    rw [slotAt_row]; omega
  · exact slotAt_col t x

theorem slotAt_inSlot (i : Pos) : slotAt (slotOf i) (inSlot i) = i := by
  refine pos_ext ?_ ?_
  · rw [slotAt_row]
    show 16 * ((i 0).val / 16) + (i 0).val % 16 = (i 0).val
    omega
  · rw [slotAt_col]; rfl

/-- The positions of slot `t`. -/
def slotSet (t : Dev nD) : Finset Pos := Finset.univ.map (slotR t).emb

theorem mem_slotSet {t : Dev nD} {i : Pos} : i ∈ slotSet t ↔ slotOf i = t := by
  constructor
  · intro h
    obtain ⟨x, -, rfl⟩ := Finset.mem_map.mp h
    exact slotOf_slotAt t x
  · rintro rfl
    exact Finset.mem_map.mpr ⟨inSlot i, Finset.mem_univ _, slotAt_inSlot i⟩

theorem slots_disjoint : ∀ t t' : Dev nD, t ≠ t' → Disjoint (slotSet t) (slotSet t') := fun t t' h =>
  Finset.disjoint_left.mpr fun i hi hi' => h ((mem_slotSet.mp hi).symm.trans (mem_slotSet.mp hi'))

theorem slots_cover : Finset.univ.biUnion slotSet = (Finset.univ : Finset Pos) :=
  Finset.eq_univ_of_forall fun i => Finset.mem_biUnion.mpr ⟨slotOf i, Finset.mem_univ _, mem_slotSet.mpr rfl⟩

/-! ## Blocks of 8 slots -/

set_option backward.proofsInPublic true in
theorem blk_inb (j : Fin 4) : ∀ a, (![128 * j.val, 0] : Fin 2 → Nat) a + S128x512.size a ≤ S512x512.size a := by
  revert j; decide +kernel

abbrev blkR (j : Fin 4) : Rect S512x512 := Rect.unit (s := S512x512) ![128 * j.val, 0] S128x512.size (blk_inb j)

def blkOf (i : Pos) : Fin 4 := ⟨(i 0).val / 128, by have := row_lt i; omega⟩

def inBlk (i : Pos) : S128x512.Idx := fun a => match a with
  | ⟨0, _⟩ => ⟨(i 0).val % 128, Nat.mod_lt _ (by decide)⟩
  | ⟨1, _⟩ => ⟨(i 1).val, col_lt i⟩

theorem blk_row (j : Fin 4) (x : S128x512.Idx) : ((blkR j).emb x 0).val = 128 * j.val + (x 0).val := by
  rw [Rect.emb_apply]
  show 128 * j.val + 1 * (x 0).val = _
  omega

theorem blk_col (j : Fin 4) (x : S128x512.Idx) : ((blkR j).emb x 1).val = (x 1).val := by
  rw [Rect.emb_apply]
  show 0 + 1 * (x 1).val = _
  omega

theorem blkOf_emb (j : Fin 4) (x : S128x512.Idx) : blkOf ((blkR j).emb x) = j := by
  have h := row_lt x
  refine Fin.ext ?_
  show ((blkR j).emb x 0).val / 128 = j.val
  rw [blk_row]; omega

theorem inBlk_emb (j : Fin 4) (x : S128x512.Idx) : inBlk ((blkR j).emb x) = x := by
  have h := row_lt x
  refine pos_ext ?_ ?_
  · show ((blkR j).emb x 0).val % 128 = (x 0).val
    rw [blk_row]; omega
  · exact blk_col j x

theorem emb_inBlk (i : Pos) : (blkR (blkOf i)).emb (inBlk i) = i := by
  refine pos_ext ?_ ?_
  · rw [blk_row]
    show 128 * ((i 0).val / 128) + (i 0).val % 128 = (i 0).val
    omega
  · rw [blk_col]; rfl

/-- The positions of block `j`. -/
def blkSet (j : Fin 4) : Finset Pos := Finset.univ.map (blkR j).emb

theorem mem_blkSet {j : Fin 4} {i : Pos} : i ∈ blkSet j ↔ blkOf i = j := by
  constructor
  · intro h
    obtain ⟨x, -, rfl⟩ := Finset.mem_map.mp h
    exact blkOf_emb j x
  · rintro rfl
    exact Finset.mem_map.mpr ⟨inBlk i, Finset.mem_univ _, emb_inBlk i⟩

theorem blks_disjoint : ∀ j j' : Fin 4, j ≠ j' → Disjoint (blkSet j) (blkSet j') := fun j j' h =>
  Finset.disjoint_left.mpr fun i hi hi' => h ((mem_blkSet.mp hi).symm.trans (mem_blkSet.mp hi'))

theorem blks_cover : Finset.univ.biUnion blkSet = (Finset.univ : Finset Pos) :=
  Finset.eq_univ_of_forall fun i => Finset.mem_biUnion.mpr ⟨blkOf i, Finset.mem_univ _, mem_blkSet.mpr rfl⟩

/-- The slots of block `j`, in order. -/
def slotsOf (j : Fin 4) : List (Dev nD) :=
  ![[0, 1, 2, 3, 4, 5, 6, 7], [8, 9, 10, 11, 12, 13, 14, 15], [16, 17, 18, 19, 20, 21, 22, 23], [24, 25, 26, 27, 28, 29, 30, 31]] j

theorem mem_slotsOf (j : Fin 4) (t : Dev nD) : t ∈ (slotsOf j).toFinset ↔ t.val / 8 = j.val := by revert j t; decide +kernel

theorem slotsOf_nodup (j : Fin 4) : (slotsOf j).Nodup := by revert j; decide +kernel

/-- A block is its 8 slots. -/
theorem blk_eq_slots (j : Fin 4) : blkSet j = (slotsOf j).toFinset.biUnion slotSet := by
  ext i
  have e : (slotOf i).val / 8 = (blkOf i).val := by
    show (i 0).val / 16 / 8 = (i 0).val / 128
    omega
  rw [mem_blkSet, Finset.mem_biUnion]
  constructor
  · rintro rfl
    exact ⟨slotOf i, (mem_slotsOf _ _).mpr e, mem_slotSet.mpr rfl⟩
  · rintro ⟨t, ht, hi⟩
    rw [mem_slotSet] at hi
    subst hi
    exact Fin.ext (e.symm.trans ((mem_slotsOf _ _).mp ht))

/-! ## Contents -/

abbrev Buf512 (F : FTy → Type) : Type := Vec F S512x512 .bf16

/-- A partial product of its four blocks. -/
def joinBlks (p : Fin 4 → Vec F S128x512 .bf16) : Buf512 F := fun i => p (blkOf i) (inBlk i)

section
variable (P : Dev nD → Buf512 F)

/-- The pieces device `c` sums: its own rows of every device's partial product. -/
def pieces (c t : Dev nD) : Vec F S16x512 .bf16 := fun x => P t (slotAt c x)

/-- The buffer of received pieces of device `c`, piece `t` in slot `t`. -/
def landed (c : Dev nD) : Buf512 F := fun i => pieces P c (slotOf i) (inSlot i)

/-- The reduced rows of device `c`. -/
def red (c : Dev nD) : Vec F S16x512 .bf16 := sum32 (pieces P c)

/-- All reduced rows. -/
def gathered : Buf512 F := fun i => red P (slotOf i) (inSlot i)

theorem landed_slotAt (c t : Dev nD) (x : S16x512.Idx) : landed P c (slotAt t x) = P t (slotAt c x) := by
  unfold landed pieces; rw [slotOf_slotAt, inSlot_slotAt]

theorem gathered_slotAt (t : Dev nD) (x : S16x512.Idx) : gathered P (slotAt t x) = red P t x := by
  unfold gathered; rw [slotOf_slotAt, inSlot_slotAt]

end

/-! ## Reading and writing slots and blocks of the scratch buffers -/

section Views
variable (Val : EltTy → Type)

theorem set_s (t : Dev nD) : (slotM sM t).view.set = slotSet t := rfl
theorem set_r (t : Dev nD) : (slotM rM t).view.set = slotSet t := rfl
theorem set_a (t : Dev nD) : (slotM aM t).view.set = slotSet t := rfl
theorem set_blk (j : Fin 4) : (sM.access (blkR j)).set = blkSet j := rfl

/-- A slot of the pieces, after a slot of a partial product was copied into it. -/
theorem copy_rs (fd f : S512x512.Idx → Val .bf16) (c t : Dev nD) (x : S16x512.Idx) :
    (slotM rM c).view.write Val fd ((slotM sM t).view.read Val f) Finset.univ (slotAt c x) = f (slotAt t x) :=
  View.write_emb_of_mem (v := (slotM rM c).view) fd ((slotM sM t).view.read Val f) (Finset.mem_univ x)

/-- A slot of the reduced rows, after the same slot of another device was copied into it. -/
theorem copy_ag (fd f : S512x512.Idx → Val .bf16) (c : Dev nD) (x : S16x512.Idx) :
    (slotM aM c).view.write Val fd ((slotM aM c).view.read Val f) Finset.univ (slotAt c x) = f (slotAt c x) :=
  View.write_emb_of_mem (v := (slotM aM c).view) fd ((slotM aM c).view.read Val f) (Finset.mem_univ x)

/-- A slot or block after a store into it. -/
theorem store_slot_r (fd : S512x512.Idx → Val .bf16) (w : S16x512.Idx → Val .bf16) (c : Dev nD) (x : S16x512.Idx) :
    (rM.access (slotR c) : View sig .tc _ _ _).write Val fd w Finset.univ (slotAt c x) = w x :=
  View.write_emb_of_mem (v := (slotM rM c).view) fd w (Finset.mem_univ x)

theorem store_slot_a (fd : S512x512.Idx → Val .bf16) (w : S16x512.Idx → Val .bf16) (c : Dev nD) (x : S16x512.Idx) :
    (aM.access (slotR c) : View sig .tc _ _ _).write Val fd w Finset.univ (slotAt c x) = w x :=
  View.write_emb_of_mem (v := (slotM aM c).view) fd w (Finset.mem_univ x)

theorem store_blk (fd : S512x512.Idx → Val .bf16) (w : S128x512.Idx → Val .bf16) (j : Fin 4) (x : S128x512.Idx) :
    (sM.access (blkR j) : View sig .tc _ _ _).write Val fd w Finset.univ ((blkR j).emb x) = w x :=
  View.write_emb_of_mem (v := sM.access (blkR j)) fd w (Finset.mem_univ x)

/-- What a load of a slot reads. -/
theorem read_slot_s (f : S512x512.Idx → Val .bf16) (t : Dev nD) : sM.view.readAt Val (slotR t).toLoadRect f = fun x => f (slotAt t x) := rfl
theorem read_slot_r (f : S512x512.Idx → Val .bf16) (t : Dev nD) : rM.view.readAt Val (slotR t).toLoadRect f = fun x => f (slotAt t x) := rfl

end Views

end Cert.FusedMlp

end
-- ==== Proof.Protocol.lean ====
/-
# The protocol of the five semaphores

Each device has five semaphores the kernel uses: the barrier; the ends of its copies of partial products; the arrivals of
pieces of partial products; the ends of its copies of reduced rows; the arrivals of reduced rows.  Each of them is raised
once for each other device, and what a raise hands over is stated here, of the partial products `P` of all devices:

* device `d` raises the barrier of `c`, and hands over its own slot `c` of the received pieces and of the reduced rows;
* a copy of slot `t` of the partial product of `c` ends: slot `t` is back;
* the piece of `d` has arrived at `c`: slot `d` of the received pieces holds it;
* a copy of the reduced rows of `c` ends: a share of them is back;
* the reduced rows of `d` have arrived at `c`: slot `d` of the reduced rows holds them.
-/
module

public import proofs.«01_k».proof.Proof.Slots
public import Idealize.ShloMosaic.Lib.Pipeline.Launch
public import Idealize.ShloMosaic.Lib.Pipeline.Kit
public import Idealize.ShloMosaic.Lib.Transfers
public import Idealize.ShloMosaic.Lib.Tactic

@[expose] public section

noncomputable section

namespace Cert.FusedMlp

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-! ## The resources -/

/-- A raise is named by the device it is made by or for. -/
abbrev UB : Type := URounds (GSem nD τ sig) (Dev nD)
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

/-- Part of a scratch buffer of device `c`: its partial product, the received pieces, the reduced rows. -/
def sAt (c : Dev nD) (I : Finset Pos) (f : Buf512 F) : sProp 𝕄 := ((c : Thread nD τ).loc cc0_scratch0) ↦[I]{fullShare} f
def rAt (c : Dev nD) (I : Finset Pos) (f : Buf512 F) : sProp 𝕄 := ((c : Thread nD τ).loc cc0_scratch1) ↦[I]{fullShare} f
def aAt (c : Dev nD) (q : PosShare TreeShare) (I : Finset Pos) (f : Buf512 F) : sProp 𝕄 := ((c : Thread nD τ).loc cc0_scratch2) ↦[I]{q} f

omit [FloatOps F] in
instance sAt_storable (c : Dev nD) (I) (f) : BI.Storable (upEmb : UEmb _ 𝕄) (sAt (F := F) c I f) := by unfold sAt; infer_instance
omit [FloatOps F] in
instance rAt_storable (c : Dev nD) (I) (f) : BI.Storable (upEmb : UEmb _ 𝕄) (rAt (F := F) c I f) := by unfold rAt; infer_instance
omit [FloatOps F] in
instance aAt_storable (c : Dev nD) (q) (I) (f) : BI.Storable (upEmb : UEmb _ 𝕄) (aAt (F := F) c q I f) := by unfold aAt; infer_instance

/-! ## The cells -/

/-- The five semaphores, in the order of the list above. -/
abbrev ksem : Fin 5 → SemLoc sig
  | 0 => .reg barS | 1 => .dma rsSendS | 2 => .dma rsRecvS | 3 => .dma agSendS | 4 => .dma agRecvS

theorem ksem_injective : Function.Injective ksem := by decide

abbrev cell (k : Fin 5) (c : Dev nD) : GSem nD τ sig := ((c : Thread nD τ), ksem k)

theorem cell_eq_iff {k k' : Fin 5} {c c' : Dev nD} : Iff (cell k c = cell k' c') (k = k' ∧ c = c') := by
  constructor
  · intro h
    have h1 : c = c' := congrArg (fun g : GSem nD τ sig => g.1.1) h
    exact ⟨ksem_injective (congrArg Prod.snd h), h1⟩
  · rintro ⟨rfl, rfl⟩; rfl

/-- What the copy of one slot counts for. -/
abbrev N : ℕ := (slotM sM 0).view.dmaCredit
theorem N_pos : 0 < N := View.dmaCredit_pos _ (by decide)

/-- What one raise counts for. -/
def amt (k : Fin 5) : ℕ := if k = 0 then 1 else N

theorem amt_pos (k : Fin 5) : 0 < amt k := by
  unfold amt; split
  · exact Nat.one_pos
  · exact N_pos

theorem amt_ne {k : Fin 5} (h : k ≠ 0) : amt k = N := if_neg h

/-- The share of the reduced rows of `c` that the copy to `d` takes along. -/
def shareOf (c d : Dev nD) : PosShare TreeShare := Transfers.dealOf fullShare.right (others c) d

variable (P : Dev nD → Buf512 F)

/-- What raise `d` of semaphore `k` of device `c` hands over. -/
def pay (k : Fin 5) (c d : Dev nD) : sProp 𝕄 :=
  match k with
  | 0 => iprop((∃ f, rAt d (slotSet c) f) ∗ ∃ f, aAt d fullShare (slotSet c) f)
  | 1 => sAt c (slotSet d) (P c)
  | 2 => rAt c (slotSet d) (landed P c)
  | 3 => aAt c (shareOf c d) (slotSet c) (gathered P)
  | 4 => aAt c fullShare (slotSet d) (gathered P)

instance pay_storable (k : Fin 5) (c d : Dev nD) : BI.Storable (upEmb : UEmb _ 𝕄) (pay P k c d) := by
  fin_cases k <;> (unfold pay; infer_instance)

/-- The schedule: one round, in which each semaphore is raised once for each other device. -/
def sched : Rounds.Schedule (GSem nD τ sig) (Dev nD) 𝕄 where
  duties g r := if r = 0 ∧ g.1.2 = .tc ∧ ∃ k, g.2 = ksem k then others g.1.1 else ∅
  unitless _ := False
  amount g _ _ := if g.2 = ksem 0 then 1 else N
  payload g _ d :=
    if g.2 = ksem 0 then pay P 0 g.1.1 d else if g.2 = ksem 1 then pay P 1 g.1.1 d else if g.2 = ksem 2 then pay P 2 g.1.1 d
    else if g.2 = ksem 3 then pay P 3 g.1.1 d else if g.2 = ksem 4 then pay P 4 g.1.1 d else iprop(emp)
  amount_pos g _ _ _ := by
    by_cases h : g.2 = ksem 0
    · rw [if_pos h]; exact Nat.one_pos
    · rw [if_neg h]; exact N_pos

instance sched_storable (g : GSem nD τ sig) (r : ℕ) (d : Dev nD) :
    BI.Storable (upEmb : UEmb _ 𝕄) ((sched P).payload g r d) := by
  dsimp only [sched]
  (repeat' split) <;> infer_instance

section Facts
variable (k : Fin 5) (c d : Dev nD)

theorem duties_eq : (sched P).duties (cell k c) 0 = others c := by
  dsimp only [sched]; exact if_pos ⟨rfl, rfl, k, rfl⟩

theorem duties_later (g : GSem nD τ sig) : ∀ r, 1 ≤ r → (sched P).duties g r = ∅ :=
  fun r hr => by dsimp only [sched]; exact if_neg fun h => by omega

theorem amount_eq : (sched P).amount (cell k c) 0 d = amt k := by
  dsimp only [sched]; unfold amt
  by_cases h : k = 0
  · rw [if_pos h, if_pos (congrArg ksem h)]
  · rw [if_neg h, if_neg fun e => h (ksem_injective e)]

theorem payload_eq : (sched P).payload (cell k c) 0 d = pay P k c d := by
  dsimp only [sched]
  have hne : ∀ k' : Fin 5, k ≠ k' → ksem k ≠ ksem k' := fun k' h e => h (ksem_injective e)
  by_cases h0 : k = 0
  · subst h0; rw [if_pos rfl]
  rw [if_neg (hne 0 h0)]
  by_cases h1 : k = 1
  · subst h1; rw [if_pos rfl]
  rw [if_neg (hne 1 h1)]
  by_cases h2 : k = 2
  · subst h2; rw [if_pos rfl]
  rw [if_neg (hne 2 h2)]
  by_cases h3 : k = 3
  · subst h3; rw [if_pos rfl]
  rw [if_neg (hne 3 h3)]
  obtain rfl : k = 4 := by omega
  rw [if_pos rfl]

theorem card_others : (others c).card = 31 := by
  rw [Finset.card_erase_of_mem (Finset.mem_univ c), Finset.card_univ]; rfl

theorem expect_eq : (sched P).expect (cell k c) 0 = 31 * amt k := by
  unfold Schedule.expect Schedule.amountOf
  rw [duties_eq, Finset.sum_congr rfl fun d _ => amount_eq P k c d, Finset.sum_const, card_others, smul_eq_mul]

end Facts

/-! ## What a device owes, and the order of the waits -/

/-- One raise of semaphore `k` of each device of `S`. -/
def dues (k : Fin 5) (S : Finset (Dev nD)) : CellTallies nD τ sig Unit := ∑ d ∈ S, tallyAt (cell k d) () (amt k)

theorem dues_apply (k : Fin 5) (S : Finset (Dev nD)) (g : GSem nD τ sig) (u : Unit) :
    dues k S g u = ∑ d ∈ S, if g = cell k d then amt k else 0 := by
  unfold dues
  rw [Finset.sum_apply, Finsupp.finset_sum_apply]
  refine Finset.sum_congr rfl fun d _ => ?_
  rw [tallyAt_apply]
  by_cases h : g = cell k d
  · rw [if_pos ⟨h, rfl⟩, if_pos h]
  · rw [if_neg fun h' => h h'.1, if_neg h]

theorem dues_pos {k : Fin 5} {S : Finset (Dev nD)} {g : GSem nD τ sig} {u : Unit} (h : 0 < dues k S g u) :
    ∃ d ∈ S, g = cell k d := by
  rw [dues_apply] at h
  obtain ⟨d, hd, hp⟩ := Finset.exists_ne_zero_of_sum_ne_zero (Nat.pos_iff_ne_zero.mp h)
  exact ⟨d, hd, by by_contra hn; exact hp (if_neg hn)⟩

theorem dues_cell (k k' : Fin 5) (S : Finset (Dev nD)) (c : Dev nD) :
    dues k S (cell k' c) () = if k' = k ∧ c ∈ S then amt k else 0 := by
  rw [dues_apply]
  by_cases hk : k' = k
  · subst hk
    rw [Finset.sum_congr rfl fun d _ => if_congr (show Iff (cell k' c = cell k' d) (c = d) from cell_eq_iff.trans (and_iff_right rfl)) rfl rfl,
      Finset.sum_ite_eq]
    exact if_congr (and_iff_right rfl).symm rfl rfl
  · rw [if_neg fun h => hk h.1]
    exact Finset.sum_eq_zero fun d _ => if_neg fun h => hk (cell_eq_iff.mp h).1

theorem dues_insert {k : Fin 5} {S : Finset (Dev nD)} {d : Dev nD} (h : d ∉ S) :
    dues k (insert d S) = dues k S + tallyAt (cell k d) () (amt k) := by
  unfold dues; rw [Finset.sum_insert h, add_comm]

theorem dues_union {k : Fin 5} {S S' : Finset (Dev nD)} (h : Disjoint S S') : dues k (S ∪ S') = dues k S + dues k S' := by
  unfold dues; exact Finset.sum_union h

theorem dues_empty (k : Fin 5) : dues k ∅ = 0 := rfl

/-- What device `c` owes at launch: a unit to each other barrier, its pieces, its reduced rows. -/
def O₀ (c : Dev nD) : CellTallies nD τ sig Unit := dues 4 (others c) + dues 2 (others c) + dues 0 (others c)

theorem O₀_pos {c : Dev nD} {g : GSem nD τ sig} {u : Unit} (h : 0 < O₀ c g u) :
    ∃ k d, (k = 0 ∨ k = 2 ∨ k = 4) ∧ g = cell k d := by
  unfold O₀ at h
  rw [Pi.add_apply, Finsupp.add_apply, Pi.add_apply, Finsupp.add_apply] at h
  rcases Nat.eq_zero_or_pos (dues 4 (others c) g u) with h4 | h4
  · rcases Nat.eq_zero_or_pos (dues 2 (others c) g u) with h2 | h2
    · obtain ⟨d, -, e⟩ := dues_pos (k := 0) (S := others c) (g := g) (u := u) (by omega)
      exact ⟨0, d, .inl rfl, e⟩
    · obtain ⟨d, -, e⟩ := dues_pos h2
      exact ⟨2, d, .inr (.inl rfl), e⟩
  · obtain ⟨d, -, e⟩ := dues_pos h4
    exact ⟨4, d, .inr (.inr rfl), e⟩

def L (g : GSem nD τ sig) : Finset Unit := if g.1.2 = .tc then {()} else ∅

/-- The barrier is waited for before the pieces, those before the reduced rows. -/
def lv (g : GSem nD τ sig) (_ : Unit) : ℕ := if g.2 = ksem 0 then 1 else if g.2 = ksem 2 then 2 else if g.2 = ksem 4 then 3 else 0

theorem L_of_ne (g : GSem nD τ sig) (h : g.1.2 ≠ .tc) : L g = ∅ := if_neg h
theorem L_tc (c : Dev nD) (sm : SemLoc sig) : L ((c : Thread nD τ), sm) = {()} := if_pos rfl
theorem mem_L (k : Fin 5) (c : Dev nD) (u : Unit) : u ∈ L (cell k c) := by rw [L_tc]; exact Finset.mem_singleton_self _

theorem lv_bar (c : Dev nD) (u : Unit) : lv (cell 0 c) u = 1 := if_pos rfl
theorem lv_rs (c : Dev nD) (u : Unit) : lv (cell 2 c) u = 2 := by
  unfold lv; rw [if_neg (show ksem 2 ≠ ksem 0 by decide), if_pos rfl]
theorem lv_ag (c : Dev nD) (u : Unit) : lv (cell 4 c) u = 3 := by
  unfold lv; rw [if_neg (show ksem 4 ≠ ksem 0 by decide), if_neg (show ksem 4 ≠ ksem 2 by decide), if_pos rfl]
theorem lv_stage (c : Dev nD) {sm : SemLoc sig} (h : ∀ k, sm ≠ ksem k) (u : Unit) : lv ((c : Thread nD τ), sm) u = 0 := by
  unfold lv; rw [if_neg (h 0), if_neg (h 2), if_neg (h 4)]

/-- A wait below everything owed is allowed. -/
theorem mayWait_below (c : Dev nD) (sm : SemLoc sig) (O : CellTallies nD τ sig Unit)
    (h : ∀ g u, 0 < O g u → ∃ k d, g = cell k d ∧ lv ((c : Thread nD τ), sm) () < lv (cell k d) ()) :
    (levAts L lv : sProp 𝕄) ⊢ MayWait (c : Thread nD τ) sm () O :=
  MayOwe.of_cut (L := L) (lev := lv) (lv ((c : Thread nD τ), sm) ())
    (fun p hp => by rw [Finset.mem_singleton.mp hp, L_tc]; exact Finset.mem_singleton_self _)
    (fun g u hg => by obtain ⟨k, d, rfl, -⟩ := h g u hg; exact mem_L k d u)
    (fun p hp => by rw [Finset.mem_singleton.mp hp])
    (fun g u hg => by obtain ⟨k, d, rfl, hl⟩ := h g u hg; exact hl)

/-- The waits for the inputs and for the output's copy. -/
theorem mayWait_stage (c : Dev nD) (q : DmaSem sig) (hq : ∀ k, SemLoc.dma q ≠ ksem k) (O : CellTallies nD τ sig Unit) (hO : O = O₀ c ∨ O = 0) :
    (levAts L lv : sProp 𝕄) ⊢ MayWait (c : Thread nD τ) (.dma q) () O := by
  rcases hO with rfl | rfl
  · refine mayWait_below c _ _ fun g u hg => ?_
    obtain ⟨k, d, hk, rfl⟩ := O₀_pos hg
    refine ⟨k, d, rfl, ?_⟩
    rw [lv_stage c hq]
    rcases hk with rfl | rfl | rfl
    · rw [lv_bar]; decide
    · rw [lv_rs]; decide
    · rw [lv_ag]; decide
  · rw [MayWait_zero]; iintro -; iempintro

/-- At the barrier a device still owes its pieces and its reduced rows. -/
theorem mayWait_bar (c : Dev nD) :
    (levAts L lv : sProp 𝕄) ⊢ MayWait (c : Thread nD τ) (ksem 0) () (dues 4 (others c) + dues 2 (others c)) := by
  refine mayWait_below c _ _ fun g u hg => ?_
  rw [Pi.add_apply, Finsupp.add_apply] at hg
  rcases Nat.eq_zero_or_pos (dues 4 (others c) g u) with h4 | h4
  · obtain ⟨d, -, e⟩ := dues_pos (k := 2) (S := others c) (g := g) (u := u) (by omega)
    exact ⟨2, d, e, by rw [lv_bar, lv_rs]; decide⟩
  · obtain ⟨d, -, e⟩ := dues_pos h4
    exact ⟨4, d, e, by rw [lv_bar, lv_ag]; decide⟩

/-- Waiting for the pieces it still owes its reduced rows. -/
theorem mayWait_rs (c : Dev nD) : (levAts L lv : sProp 𝕄) ⊢ MayWait (c : Thread nD τ) (ksem 2) () (dues 4 (others c)) := by
  refine mayWait_below c _ _ fun g u hg => ?_
  obtain ⟨d, -, e⟩ := dues_pos hg
  exact ⟨4, d, e, by rw [lv_rs, lv_ag]; decide⟩

/-! ## What every device knows -/

/-- The invariants of all cells, under the names `K`, and that all are at their first round. -/
def records (K : Dev nD × Fin 5 → ℕ) : sProp 𝕄 :=
  iprop((bigSep Finset.univ fun ck : Dev nD × Fin 5 => cellInv ER (sched P) (K ck) (cell ck.2 ck.1))
    ∗ bigSep Finset.univ fun ck : Dev nD × Fin 5 => reached ER (cell ck.2 ck.1) 0)

instance records_persistent (K : Dev nD × Fin 5 → ℕ) : BI.Persistent (records P K) := by unfold records; infer_instance

theorem inv_at (K : Dev nD × Fin 5 → ℕ) (k : Fin 5) (c : Dev nD) :
    records P K ⊢ cellInv ER (sched P) (K (c, k)) (cell k c) := by
  have h : (bigSep Finset.univ fun ck : Dev nD × Fin 5 => (cellInv ER (sched P) (K ck) (cell ck.2 ck.1) : sProp 𝕄))
      ⊢ cellInv ER (sched P) (K (c, k)) (cell k c) := bigSep_elim (Finset.mem_univ (c, k))
  unfold records
  iintro ⟨H, -⟩
  iapply h
  iexact H

theorem reached_at (K : Dev nD × Fin 5 → ℕ) (k : Fin 5) (c : Dev nD) :
    records P K ⊢ reached ER (cell k c) 0 := by
  have h : (bigSep Finset.univ fun ck : Dev nD × Fin 5 => (reached ER (cell ck.2 ck.1) 0 : sProp 𝕄))
      ⊢ reached ER (cell k c) 0 := bigSep_elim (Finset.mem_univ (c, k))
  unfold records
  iintro ⟨-, H⟩
  iapply h
  iexact H

end Cert.FusedMlp

end
-- ==== Proof.Loops.lean ====
/-
# One rule for each loop of the body

What a device gives up and gets back in a loop of signals, of copies, of waits or of loads.  Each is proved by induction
on the loop, with the rule of its one step.
-/
module

public import proofs.«01_k».proof.Proof.Protocol
public import Idealize.ShloMosaic.Lib.SparseCore.ProtocolKit

@[expose] public section

noncomputable section

namespace Cert.FusedMlp

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

abbrev 𝒱₀ : Variants := Variants.none

/-- Device `c` runs `p` and ends with `Q`. -/
abbrev WP (c : Dev nD) {α : Type} (p : Prog (Ops F) α) (Q : α → sProp 𝕄) : sProp 𝕄 :=
  wp frame (wpE (defs₀ (F := F)) 𝒱₀ (c : Thread nD τ) none) Set.univ p Q

variable (P : Dev nD → Buf512 F) (K : Dev nD × Fin 5 → ℕ) (c : Dev nD)

omit [FloatOps F] in
theorem bigSep_put {I : Type} [DecidableEq I] {S : Finset I} {d : I} (h : d ∉ S) (Φ : I → sProp 𝕄) :
    bigSep (insert d S) Φ = iprop(Φ d ∗ bigSep S Φ) := bigSep_insert h

omit [FloatOps F] in
theorem bigSep_none {I : Type} (Φ : I → sProp 𝕄) : bigSep ∅ Φ = iprop(emp) := bigSep_empty

/-! ## Loops without a protocol -/

/-- `n` steps in a row, of an invariant of the number of steps made. -/
theorem wp_replicate {I : ℕ → sProp 𝕄} {p : Prog (Ops F) PUnit} {α : Type} {q : Prog (Ops F) α} {Q : α → sProp 𝕄} {n : ℕ}
    (hstep : ∀ j, j < n → ∀ q : Prog (Ops F) α, I j ⊢ iprop((I (j + 1) -∗ WP c q Q) -∗ WP c (p >>= fun _ => q) Q)) :
    I 0 ⊢ iprop((I n -∗ WP c q Q) -∗ WP c (runAll (List.replicate n p) q) Q) := by
  have h : ∀ j, j ≤ n → I (n - j) ⊢ iprop((I n -∗ WP c q Q) -∗ WP c (runAll (List.replicate j p) q) Q) := by
    intro j
    induction j with
    | zero =>
      intro _
      iintro HI Hk
      iapply Hk; iexact HI
    | succ j ih =>
      intro hj
      have e : n - (j + 1) + 1 = n - j := by omega
      have hs := hstep (n - (j + 1)) (by omega) (runAll (List.replicate j p) q)
      rw [e] at hs
      rw [List.replicate_succ, runAll]
      iintro HI Hk
      iapply hs $$ HI
      iintro HI
      iapply (ih (by omega)) $$ HI
      iexact Hk
  have := h n le_rfl
  rwa [Nat.sub_self] at this

/-- `n` loads in a row that each keep `R`. -/
theorem wp_readAll {R : sProp 𝕄} {β α : Type} {Q : α → sProp 𝕄} : ∀ (n : ℕ) (p : Fin n → Prog (Ops F) β) (X : Fin n → β)
    (hstep : ∀ i (k : β → Prog (Ops F) α), R ⊢ iprop((R -∗ WP c (k (X i)) Q) -∗ WP c (p i >>= k) Q))
    (k : (Fin n → β) → Prog (Ops F) α), R ⊢ iprop((R -∗ WP c (k X) Q) -∗ WP c (readAll n p k) Q)
  | 0, p, X, hstep, k => by
    rw [readAll, show X = Fin.elim0 from funext fun i => i.elim0]
    iintro HR Hk
    iapply Hk; iexact HR
  | n + 1, p, X, hstep, k => by
    have ih := wp_readAll n (fun i => p i.succ) (fun i => X i.succ) (fun i k => hstep i.succ k) (fun w => k (Fin.cons (X 0) w))
    rw [show Fin.cons (X 0) (fun i => X i.succ) = X from Fin.cons_self_tail X] at ih
    rw [readAll]
    iintro HR Hk
    iapply (hstep 0 _) $$ HR
    iintro HR
    iapply ih $$ HR
    iexact Hk

/-! ## The signals -/

/-- Device `c` signals the devices of a list: it hands each its slots of the two receiving buffers. -/
theorem wp_signals {α : Type} {k : Prog (Ops F) α} {Q : α → sProp 𝕄} (O : CellTallies nD τ sig Unit) (W : Waits sig Unit) :
    ∀ (l : List (Dev nD)) (hl : l.Nodup) (hc : ∀ d ∈ l, d ≠ c),
    iprop(records P K ∗ owes (c : Thread nD τ) (O + dues 0 l.toFinset) W
        ∗ bigSep l.toFinset fun d => iprop(dutyTok ER (cell 0 d) 0 c ∗ pay P 0 d c))
      ⊢ iprop((owes (c : Thread nD τ) O W -∗ WP c k Q) -∗ WP c (runAll (l.map sigStep) k) Q)
  | [], hl, hc => by
    rw [List.toFinset_nil, dues_empty, add_zero]
    iintro ⟨-, HO, -⟩ Hk
    iapply Hk; iexact HO
  | d :: l, hl, hc => by
    have hd : d ∉ l.toFinset := fun h => (List.nodup_cons.mp hl).1 (List.mem_toFinset.mp h)
    have ih := wp_signals O W l (List.nodup_cons.mp hl).2 (fun d' h => hc d' (List.mem_cons_of_mem _ h)) (k := k) (Q := Q)
    rw [List.toFinset_cons, dues_insert hd, bigSep_put hd, ← add_assoc, List.map_cons, runAll]
    iintro ⟨#HR, HO, ⟨Ht, Hp⟩, Hl⟩ Hk
    unfold sigStep
    simp only [semSignalWord, Prog.lift, Prog.bind_op, Prog.bind_ret]
    iapply (Rounds.wp_signal 𝒱₀ ER (sched P) (c : Thread nD τ) none (dst := (d : Thread nD τ)) (κ := K (d, 0)) (r := 0)
      (d := c) (by rw [duties_eq P 0 d]; exact Finset.mem_erase.mpr ⟨(hc d (List.mem_cons_self ..)).symm, Finset.mem_univ _⟩)
      ((amount_eq P 0 d c).trans (by decide)) () (O + dues 0 l.toFinset) rfl) $$ [HO Ht Hp]
    · isplitr; · iapply (inv_at P K 0 d); iexact HR
      isplitl [HO]; · iexact HO
      isplitl [Ht]; · iexact Ht
      isplitl [Hp]; · rw [payload_eq P 0 d c]; iexact Hp
      iapply (reached_at P K 0 d); iexact HR
    iintro HO
    iapply ih $$ [HO Hl]
    · isplitr; · iexact HR
      isplitl [HO] <;> iassumption
    iexact Hk

/-! ## The copies of partial products -/

/-- What the copy of slot `t` of the partial product of `c` takes: the slot, the slot of `c` at device `t`, and the right to
    raise the two semaphores. -/
def rsRes (t : Dev nD) : sProp 𝕄 :=
  iprop(sAt c (slotSet t) (P c) ∗ (∃ f, rAt t (slotSet c) f) ∗ dutyTok ER (cell 1 c) 0 t ∗ dutyTok ER (cell 2 t) 0 c)

/-- The slot of `c` at device `t`, written by the copy, holds the piece of `c`. -/
theorem rs_landed (t : Dev nD) (fd : Buf512 F) :
    rAt t (slotSet c) ((slotM rM c).view.write (Elt F) fd ((slotM sM t).view.read (Elt F) (P c)) Finset.univ)
      = rAt t (slotSet c) (landed P t) := by
  unfold rAt
  refine pointsTo_congr fun i hi => ?_
  obtain rfl := mem_slotSet.mp hi
  rw [← slotAt_inSlot i, slotOf_slotAt]
  exact (copy_rs (Elt F) fd (P (slotOf i)) (slotOf i) t (inSlot i)).trans (landed_slotAt P t (slotOf i) (inSlot i)).symm

theorem wp_rsCopy {α : Type} {k : Prog (Ops F) α} {Q : α → sProp 𝕄} (O : CellTallies nD τ sig Unit) (W : Waits sig Unit)
    {t : Dev nD} (h : t ≠ c) :
    iprop(records P K ∗ owes (c : Thread nD τ) (O + tallyAt (cell 2 t) () (amt 2)) W ∗ rsRes P c t)
      ⊢ iprop(((owes (c : Thread nD τ) O W ∗ cred (tallyAt (cell 1 c) () N)) -∗ WP c k Q) -∗ WP c (rsCopy c t >>= fun _ => k) Q) := by
  unfold rsCopy rsRes
  simp only [Prog.lift, Prog.bind_op, Prog.bind_ret]
  iintro ⟨#HR, HO, Hs, ⟨%fd, Hr⟩, Ht1, Ht2⟩ Hk
  unfold sAt
  ihave Hr' := (show (rAt t (slotSet c) fd : sProp 𝕄) ⊢ ((slotM rM c).view.loc (t : Thread nD τ) ↦[(slotM rM c).view.set]{fullShare} fd) from by
    unfold rAt; exact Entails.refl _) $$ Hr
  iapply (Rounds.wp_send_pointsTo 𝒱₀ ER (sched P) (c : Thread nD τ) none (c' := (t : Thread nD τ)) (src := slotM sM t) (dst := slotM rM c)
    (κ₁ := K (c, 1)) (κ₂ := K (t, 2)) (r₁ := 0) (r₂ := 0) (d₁ := t) (d₂ := c) (q := fullShare) (fs := P c) (fd := fd)
    (by rw [duties_eq P 1 c]; exact Finset.mem_erase.mpr ⟨h, Finset.mem_univ _⟩)
    (by rw [duties_eq P 2 t]; exact Finset.mem_erase.mpr ⟨h.symm, Finset.mem_univ _⟩)
    () () N rfl (amount_eq P 1 c t) (amount_eq P 2 t c) O rfl (W := W)
    (by rw [payload_eq P 1 c t]; unfold pay sAt; exact Entails.refl _)
    (by rw [payload_eq P 2 t c]; unfold pay; exact Entails.of_eq (rs_landed P c t fd))) $$ [HO Hs Hr' Ht1 Ht2]
  · isplitr; · iapply (inv_at P K 1 c); iexact HR
    isplitr; · iapply (inv_at P K 2 t); iexact HR
    isplitl [Hs]; · iexact Hs
    isplitl [Hr']; · iexact Hr'
    isplitl [HO]; · iexact HO
    isplitl [Ht1]; · iexact Ht1
    isplitr; · iapply (reached_at P K 1 c); iexact HR
    isplitl [Ht2]; · iexact Ht2
    iapply (reached_at P K 2 t); iexact HR
  iintro ⟨Hc, HO⟩
  iapply Hk
  isplitl [HO] <;> iassumption

/-- The copies of the slots of a list; the device's own is left out. -/
theorem wp_sends {α : Type} {k : Prog (Ops F) α} {Q : α → sProp 𝕄} (O : CellTallies nD τ sig Unit) (W : Waits sig Unit) :
    ∀ (l : List (Dev nD)) (hl : l.Nodup),
    iprop(records P K ∗ owes (c : Thread nD τ) (O + dues 2 (l.toFinset.erase c)) W ∗ bigSep (l.toFinset.erase c) (rsRes P c))
      ⊢ iprop(((owes (c : Thread nD τ) O W ∗ bigSep (l.toFinset.erase c) fun _ => cred (tallyAt (cell 1 c) () N)) -∗ WP c k Q)
          -∗ WP c (sendsOf c l k) Q)
  | [], hl => by
    rw [List.toFinset_nil, Finset.erase_empty, dues_empty, add_zero, sendsOf]
    iintro ⟨-, HO, He⟩ Hk
    iapply Hk
    isplitl [HO]; · iexact HO
    rw [bigSep_none]; iempintro
  | t :: l, hl => by
    have hd : t ∉ l.toFinset := fun h => (List.nodup_cons.mp hl).1 (List.mem_toFinset.mp h)
    have ih := wp_sends O W l (List.nodup_cons.mp hl).2 (k := k) (Q := Q)
    rw [List.toFinset_cons, sendsOf]
    by_cases h : t = c
    · subst h
      rw [Finset.erase_insert_eq_erase, sendStep_self]
      exact ih
    · have hd' : t ∉ l.toFinset.erase c := fun h' => hd (Finset.mem_of_mem_erase h')
      rw [Finset.erase_insert_of_ne h, dues_insert hd', bigSep_put hd', bigSep_put hd', ← add_assoc, sendStep_other h]
      iintro ⟨#HR, HO, Ht, Hl⟩ Hk
      iapply (wp_rsCopy P K c (O + dues 2 (l.toFinset.erase c)) W h) $$ [HO Ht]
      · isplitr; · iexact HR
        isplitl [HO] <;> iassumption
      iintro ⟨HO, Hc⟩
      iapply ih $$ [HO Hl]
      · isplitr; · iexact HR
        isplitl [HO] <;> iassumption
      iintro ⟨HO, Hcs⟩
      iapply Hk
      isplitl [HO]; · iexact HO
      isplitl [Hc] <;> iassumption

/-! ## The copies of reduced rows -/

/-- What the copy of the reduced rows of `c` to device `d` takes. -/
def agRes (d : Dev nD) : sProp 𝕄 :=
  iprop(aAt c (shareOf c d) (slotSet c) (gathered P) ∗ (∃ f, aAt d fullShare (slotSet c) f) ∗ dutyTok ER (cell 3 c) 0 d ∗ dutyTok ER (cell 4 d) 0 c)

theorem ag_landed (d : Dev nD) (fd : Buf512 F) :
    aAt d fullShare (slotSet c) ((slotM aM c).view.write (Elt F) fd ((slotM aM c).view.read (Elt F) (gathered P)) Finset.univ)
      = aAt d fullShare (slotSet c) (gathered P) := by
  unfold aAt
  refine pointsTo_congr fun i hi => ?_
  obtain rfl := mem_slotSet.mp hi
  rw [← slotAt_inSlot i, slotOf_slotAt]
  exact copy_ag (Elt F) fd (gathered P) (slotOf i) (inSlot i)

theorem wp_agCopy {α : Type} {k : Prog (Ops F) α} {Q : α → sProp 𝕄} (O : CellTallies nD τ sig Unit) (W : Waits sig Unit)
    {d : Dev nD} (h : d ≠ c) :
    iprop(records P K ∗ owes (c : Thread nD τ) (O + tallyAt (cell 4 d) () (amt 4)) W ∗ agRes P c d)
      ⊢ iprop(((owes (c : Thread nD τ) O W ∗ cred (tallyAt (cell 3 c) () N)) -∗ WP c k Q) -∗ WP c (agCopy c d >>= fun _ => k) Q) := by
  unfold agCopy agRes
  simp only [Prog.lift, Prog.bind_op, Prog.bind_ret]
  iintro ⟨#HR, HO, Hs, ⟨%fd, Hr⟩, Ht1, Ht2⟩ Hk
  ihave Hs' := (show (aAt c (shareOf c d) (slotSet c) (gathered P) : sProp 𝕄) ⊢ ((slotM aM c).view.loc (c : Thread nD τ) ↦[(slotM aM c).view.set]{shareOf c d} gathered P) from by
    unfold aAt; exact Entails.refl _) $$ Hs
  ihave Hr' := (show (aAt d fullShare (slotSet c) fd : sProp 𝕄) ⊢ ((slotM aM c).view.loc (d : Thread nD τ) ↦[(slotM aM c).view.set]{fullShare} fd) from by
    unfold aAt; exact Entails.refl _) $$ Hr
  iapply (Rounds.wp_send_pointsTo 𝒱₀ ER (sched P) (c : Thread nD τ) none (c' := (d : Thread nD τ)) (src := slotM aM c) (dst := slotM aM c)
    (κ₁ := K (c, 3)) (κ₂ := K (d, 4)) (r₁ := 0) (r₂ := 0) (d₁ := d) (d₂ := c) (q := shareOf c d) (fs := gathered P) (fd := fd)
    (by rw [duties_eq P 3 c]; exact Finset.mem_erase.mpr ⟨h, Finset.mem_univ _⟩)
    (by rw [duties_eq P 4 d]; exact Finset.mem_erase.mpr ⟨h.symm, Finset.mem_univ _⟩)
    () () N rfl (amount_eq P 3 c d) (amount_eq P 4 d c) O rfl (W := W)
    (by rw [payload_eq P 3 c d]; unfold pay aAt; exact Entails.refl _)
    (by rw [payload_eq P 4 d c]; unfold pay; exact Entails.of_eq (ag_landed P c d fd))) $$ [HO Hs' Hr' Ht1 Ht2]
  · isplitr; · iapply (inv_at P K 3 c); iexact HR
    isplitr; · iapply (inv_at P K 4 d); iexact HR
    isplitl [Hs']; · iexact Hs'
    isplitl [Hr']; · iexact Hr'
    isplitl [HO]; · iexact HO
    isplitl [Ht1]; · iexact Ht1
    isplitr; · iapply (reached_at P K 3 c); iexact HR
    isplitl [Ht2]; · iexact Ht2
    iapply (reached_at P K 4 d); iexact HR
  iintro ⟨Hc, HO⟩
  iapply Hk
  isplitl [HO] <;> iassumption

/-- The copies of the reduced rows to the devices of a list. -/
theorem wp_agCopies {α : Type} {k : Prog (Ops F) α} {Q : α → sProp 𝕄} (O : CellTallies nD τ sig Unit) (W : Waits sig Unit) :
    ∀ (l : List (Dev nD)) (hl : l.Nodup) (hc : ∀ d ∈ l, d ≠ c),
    iprop(records P K ∗ owes (c : Thread nD τ) (O + dues 4 l.toFinset) W ∗ bigSep l.toFinset (agRes P c))
      ⊢ iprop(((owes (c : Thread nD τ) O W ∗ bigSep l.toFinset fun _ => cred (tallyAt (cell 3 c) () N)) -∗ WP c k Q)
          -∗ WP c (runAll (l.map (agStep c)) k) Q)
  | [], hl, hc => by
    rw [List.toFinset_nil, dues_empty, add_zero]
    iintro ⟨-, HO, He⟩ Hk
    iapply Hk
    isplitl [HO]; · iexact HO
    rw [bigSep_none]; iempintro
  | d :: l, hl, hc => by
    have hd : d ∉ l.toFinset := fun h => (List.nodup_cons.mp hl).1 (List.mem_toFinset.mp h)
    have ih := wp_agCopies O W l (List.nodup_cons.mp hl).2 (fun d' h => hc d' (List.mem_cons_of_mem _ h)) (k := k) (Q := Q)
    rw [List.toFinset_cons, dues_insert hd, bigSep_put hd, bigSep_put hd, ← add_assoc, List.map_cons, runAll, agStep_eq]
    iintro ⟨#HR, HO, Ht, Hl⟩ Hk
    iapply (wp_agCopy P K c (O + dues 4 l.toFinset) W (hc d (List.mem_cons_self ..))) $$ [HO Ht]
    · isplitr; · iexact HR
      isplitl [HO] <;> iassumption
    iintro ⟨HO, Hc⟩
    iapply ih $$ [HO Hl]
    · isplitr; · iexact HR
      isplitl [HO] <;> iassumption
    iintro ⟨HO, Hcs⟩
    iapply Hk
    isplitl [HO]; · iexact HO
    isplitl [Hc] <;> iassumption

/-- Credit for the copies to a set of devices. -/
theorem cred_sum (g : GSem nD τ sig) (S : Finset (Dev nD)) :
    (bigSep S fun _ => (cred (tallyAt g () N) : sProp 𝕄)) = cred (tallyAt g () (S.card * N)) := by
  induction S using Finset.induction_on with
  | empty => rw [bigSep_none, Finset.card_empty, Rounds.cred_tallyAt_zero_mul]
  | insert d S hd ih =>
    rw [bigSep_put hd, Finset.card_insert_of_notMem hd, ih, Nat.succ_mul, add_comm, ← tallyAt_add, SparseCore.Cfg.cred_add_eq]

/-! ## The waits for copies -/

/-- `j` of `n` waits at semaphore `k` of device `c` made: the credit for the rest, and what the waits have brought. -/
def waited (k : Fin 5) (n j : ℕ) : sProp 𝕄 :=
  iprop(cred (tallyAt (cell k c) () ((n - j) * N)) ∗ Rounds.drained ER (sched P) (cell k c) 0 N j)

theorem waited_zero (k : Fin 5) (n : ℕ) : iprop(cred (tallyAt (cell k c) () (n * N)) ∗ atPos ER (cell k c) 0 ∅ 0) ⊢ waited P c k n 0 := by
  unfold waited
  rw [Nat.sub_zero]
  iintro ⟨Hc, Ha⟩
  isplitl [Hc]; · iexact Hc
  iapply (Rounds.drained_zero (E := ER) (Rd := sched P)); iexact Ha

/-- All 31 waits made: everything handed over is there. -/
theorem waited_all {k : Fin 5} (hk : k ≠ 0) :
    iprop(records P K ∗ waited P c k 31 31)
      ⊢ iprop(|={Set.univ}=> (atPos ER (cell k c) 1 ∅ 0 ∗ bigSep (others c) (pay P k c))) := by
  have e : (bigSep ((sched P).duties (cell k c) 0) fun d => (sched P).payload (cell k c) 0 d) = bigSep (others c) (pay P k c) := by
    rw [duties_eq P k c]; exact bigSep_congr fun d _ => payload_eq P k c d
  unfold waited
  iintro ⟨#HR, -, Hd⟩
  imod (Rounds.drained_done (E := ER) (Rd := sched P) (κ := K (c, k)) (Set.mem_univ _) (n := 31) ((expect_eq P k c).trans (by rw [amt_ne hk]))) $$ [Hd] with ⟨Ha, -, Hp⟩
  · isplitr; · iapply (inv_at P K k c); iexact HR
    iexact Hd
  imodintro
  isplitl [Ha]; · iexact Ha
  iapply (Entails.of_eq e)
  iexact Hp

/-- One wait. -/
theorem wp_slotWait {k : Fin 5} {q : DmaSem sig} (hq : ksem k = .dma q) {A : Memref sig .tc .vmem S512x512 .bf16} {hA : A.IsWhole} {a : Dev nD}
    {B : Memref sig .tc .vmem S512x512 .bf16} {hB : B.IsWhole} {b : Dev nD} (hN : (slotM B b).view.dmaCredit = N)
    (O : CellTallies nD τ sig Unit) (hO : (levAts L lv : sProp 𝕄) ⊢ MayWait (c : Thread nD τ) (ksem k) () O)
    {n j : ℕ} (hj : j < n) {α : Type} {p : Prog (Ops F) α} {Q : α → sProp 𝕄} :
    iprop(records P K ∗ levAts L lv ∗ (∃ W, owes (c : Thread nD τ) O W) ∗ waited P c k n j)
      ⊢ iprop((((∃ W, owes (c : Thread nD τ) O W) ∗ waited P c k n (j + 1)) -∗ WP c p Q)
          -∗ WP c (slotWait q A hA a B hB b >>= fun _ => p) Q) := by
  unfold slotWait waited
  simp only [Prog.lift, Prog.bind_op, Prog.bind_ret]
  rw [Rounds.cred_tallyAt_peel (cell k c) () N hj]
  iintro ⟨#HR, #HL, ⟨%W, HO⟩, ⟨Hc, Hcs⟩, Hd⟩ Hk
  have hw : ∀ K' : PUnit → sProp 𝕄, wpE (defs₀ (F := F)) 𝒱₀ (c : Thread nD τ) none Set.univ
      (.waitDma2 q (slotM A a) (slotM B b) (whole_slot hA a) (whole_slot hB b)) K' = waitSpec (c : Thread nD τ) Set.univ (ksem k) N K' := by
    intro K'; rw [hq, ← hN]; rfl
  iapply (Rounds.wp_drain_step (E := ER) (Rd := sched P) (g := cell k c) (R := 0) (N := N) (k := j)
    (A := cellInv ER (sched P) (K (c, k)) (cell k c)) (B := cred (tallyAt (cell k c) () N)) (C := owes (c : Thread nD τ) O W)
    (M := MayWait (c : Thread nD τ) (ksem k) () O) (Y := owes (c : Thread nD τ) O (W ∪ {(ksem k, ())}))
    (fun T => Rounds.wp_wait 𝒱₀ ER (sched P) (c : Thread nD τ) none (κ := K (c, k)) hw (Set.mem_univ _) {(ksem k, ())}
      (cr := Finsupp.single () N) (by rw [Util.total_single]) (image_single_subset _ () N))) $$ [Hc HO Hd]
  · isplitr; · iapply (inv_at P K k c); iexact HR
    isplitl [Hc]; · iexact Hc
    isplitl [HO]; · iexact HO
    isplitr; · iapply hO; iexact HL
    iexact Hd
  iintro ⟨HO, Hd⟩
  iapply Hk
  isplitl [HO]; · iexists _; iexact HO
  isplitl [Hcs] <;> iassumption

theorem credit_r (b : Dev nD) : (slotM rM b).view.dmaCredit = N := rfl
theorem credit_a (b : Dev nD) : (slotM aM b).view.dmaCredit = N := rfl
theorem credit_s (b : Dev nD) : (slotM sM b).view.dmaCredit = N := rfl

end Cert.FusedMlp

end
-- ==== Proof.Parts.lean ====
/-
# Buffers held in parts

The three scratch buffers cut into slots and blocks and put together again; the other devices in the four groups in which
the copies to them are made; the device's own slot of its partial product, left over from its group; the shares of the
reduced rows.
-/
module

public import proofs.«01_k».proof.Proof.Loops
public import Idealize.ShloMosaic.Lib.Ring

@[expose] public section

noncomputable section

namespace Cert.FusedMlp

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-! ## Slots -/

section Slots
variable (c : Dev nD)

omit [FloatOps F] in
/-- One of a family over all devices, and the others. -/
theorem bigSep_own (Φ : Dev nD → sProp 𝕄) : bigSep Finset.univ Φ = iprop(Φ c ∗ bigSep (others c) Φ) :=
  bigSep_erase (Finset.mem_univ c)

omit [FloatOps F] in
/-- The buffer of pieces is its own slot and the others. -/
theorem rAt_slots (f : Buf512 F) :
    rAt c Finset.univ f = iprop(rAt c (slotSet c) f ∗ bigSep (others c) fun d => rAt c (slotSet d) f) := by
  rw [← bigSep_own c fun d => rAt c (slotSet d) f]
  unfold rAt
  exact Ring.pointsTo_blocks (Val := Elt F) (Ix := Unit) (Name := ℕ) (U := UU) (Lvl := ℕ) (ℓ := (c : Thread nD τ).loc cc0_scratch1) (q := fullShare) slotSet slots_disjoint slots_cover f

omit [FloatOps F] in
/-- The same of the reduced rows, at any share; -/
theorem aAt_slots (q : PosShare TreeShare) (f : Buf512 F) :
    aAt c q Finset.univ f = iprop(aAt c q (slotSet c) f ∗ bigSep (others c) fun d => aAt c q (slotSet d) f) := by
  rw [← bigSep_own c fun d => aAt c q (slotSet d) f]
  unfold aAt
  exact Ring.pointsTo_blocks (Val := Elt F) (Ix := Unit) (Name := ℕ) (U := UU) (Lvl := ℕ) (ℓ := (c : Thread nD τ).loc cc0_scratch2) (q := q) slotSet slots_disjoint slots_cover f

omit [FloatOps F] in
/-- and of the partial product. -/
theorem sAt_slots (f : Buf512 F) :
    sAt c Finset.univ f = iprop(sAt c (slotSet c) f ∗ bigSep (others c) fun d => sAt c (slotSet d) f) := by
  rw [← bigSep_own c fun d => sAt c (slotSet d) f]
  unfold sAt
  exact Ring.pointsTo_blocks (Val := Elt F) (Ix := Unit) (Name := ℕ) (U := UU) (Lvl := ℕ) (ℓ := (c : Thread nD τ).loc cc0_scratch0) (q := fullShare) slotSet slots_disjoint slots_cover f

omit [FloatOps F] in
/-- A partial product is its four blocks, -/
theorem sAt_blks (f : Buf512 F) :
    sAt c Finset.univ f = iprop(sAt c (blkSet 0) f ∗ sAt c (blkSet 1) f ∗ sAt c (blkSet 2) f ∗ sAt c (blkSet 3) f) := by
  have e : bigSep Finset.univ (fun j => sAt c (blkSet j) f) = iprop(sAt c (blkSet 0) f ∗ sAt c (blkSet 1) f ∗ sAt c (blkSet 2) f ∗ sAt c (blkSet 3) f) :=
    bigSep_univ_eq_bigSepL [0, 1, 2, 3] (by decide) (by decide) _
  rw [← e]
  unfold sAt
  exact Ring.pointsTo_blocks (Val := Elt F) (Ix := Unit) (Name := ℕ) (U := UU) (Lvl := ℕ) (ℓ := (c : Thread nD τ).loc cc0_scratch0) (q := fullShare) blkSet blks_disjoint blks_cover f

omit [FloatOps F] in
/-- and each of them its eight slots. -/
theorem sAt_blk_slots (j : Fin 4) (f : Buf512 F) :
    sAt c (blkSet j) f = bigSep (slotsOf j).toFinset fun t => sAt c (slotSet t) f := by
  have e := pointsTo_biUnion (Val := Elt F) (Ix := Unit) (Name := ℕ) (U := UU) (Lvl := ℕ) (ℓ := (c : Thread nD τ).loc cc0_scratch0) (q := fullShare) (f := f)
    (slotsOf j).toFinset slotSet fun t _ t' _ h => slots_disjoint t t' h
  refine Eq.trans (congrArg (fun I => sAt c I f) ?_) e
  exact blk_eq_slots j

/-! ## The four groups of copies -/

/-- The other devices whose slots lie in block `j`. -/
def grp (j : Fin 4) : Finset (Dev nD) := (slotsOf j).toFinset.erase c

theorem mem_grp {j : Fin 4} {t : Dev nD} : t ∈ grp c j ↔ t ≠ c ∧ t.val / 8 = j.val := by
  unfold grp; rw [Finset.mem_erase, mem_slotsOf]

theorem grp_disjoint : ∀ j ∈ (Finset.univ : Finset (Fin 4)), ∀ j' ∈ (Finset.univ : Finset (Fin 4)), j ≠ j' → Disjoint (grp c j) (grp c j') :=
  fun j _ j' _ h => Finset.disjoint_left.mpr fun t ht ht' =>
    h (Fin.ext (((mem_grp c).mp ht).2.symm.trans ((mem_grp c).mp ht').2))

theorem others_eq : others c = Finset.univ.biUnion (grp c) := by
  ext t
  rw [Finset.mem_biUnion, Finset.mem_erase]
  constructor
  · rintro ⟨h, -⟩
    have ht : t.val < 32 := t.isLt
    exact ⟨⟨t.val / 8, by omega⟩, Finset.mem_univ _, (mem_grp c).mpr ⟨h, rfl⟩⟩
  · rintro ⟨j, -, h⟩
    exact ⟨((mem_grp c).mp h).1, Finset.mem_univ _⟩

omit [FloatOps F] in
/-- What is held for each other device, group by group; -/
theorem bigSep_groups (Φ : Dev nD → sProp 𝕄) :
    bigSep (others c) Φ = iprop(bigSep (grp c 0) Φ ∗ bigSep (grp c 1) Φ ∗ bigSep (grp c 2) Φ ∗ bigSep (grp c 3) Φ) := by
  rw [others_eq, bigSep_biUnion_eq _ _ _ (grp_disjoint c)]
  exact bigSep_univ_eq_bigSepL [0, 1, 2, 3] (by decide) (by decide) _

/-- what is owed to the others, so that the first group is paid first. -/
theorem dues_groups : dues 2 (others c) = dues 2 (grp c 3) + dues 2 (grp c 2) + dues 2 (grp c 1) + dues 2 (grp c 0) := by
  rw [others_eq]
  unfold dues
  rw [Finset.sum_biUnion fun j hj j' hj' h => grp_disjoint c j hj j' hj' h, Fin.sum_univ_four]
  rw [add_comm (_ + _ + _), add_comm (_ + _), add_comm (∑ d ∈ grp c 0, _)]
  simp only [add_assoc]

/-- The own slot of device `c`, if it lies in block `j`. -/
def ownIn (f : Buf512 F) (j : Fin 4) : sProp 𝕄 := if c.val / 8 = j.val then sAt c (slotSet c) f else iprop(emp)

omit [FloatOps F] in
/-- A block is the slots of its group, and the own slot if it lies there. -/
theorem sAt_blk_grp (j : Fin 4) (f : Buf512 F) :
    sAt c (blkSet j) f ⊢ iprop(ownIn c f j ∗ bigSep (grp c j) fun t => sAt c (slotSet t) f) := by
  rw [sAt_blk_slots]
  unfold ownIn grp
  by_cases h : c.val / 8 = j.val
  · rw [if_pos h]
    exact Entails.of_eq (bigSep_erase ((mem_slotsOf j c).mpr h))
  · rw [if_neg h, Finset.erase_eq_of_notMem fun h' => h ((mem_slotsOf j c).mp h')]
    iintro H
    isplitr; · iempintro
    iexact H

omit [FloatOps F] in
/-- It lies in one of the four blocks. -/
theorem own_slot (f : Buf512 F) : iprop(ownIn c f 0 ∗ ownIn c f 1 ∗ ownIn c f 2 ∗ ownIn c f 3) ⊢ sAt c (slotSet c) f := by
  have hc : c.val < 32 := c.isLt
  have e : bigSep Finset.univ (ownIn c f) = iprop(ownIn c f 0 ∗ ownIn c f 1 ∗ ownIn c f 2 ∗ ownIn c f 3) :=
    bigSep_univ_eq_bigSepL [0, 1, 2, 3] (by decide) (by decide) _
  rw [← e]
  have h : bigSep Finset.univ (ownIn c f) ⊢ ownIn c f ⟨c.val / 8, by omega⟩ := bigSep_elim (Finset.mem_univ _)
  exact h.trans (Entails.of_eq (if_pos rfl))

end Slots

/-! ## Shares of the reduced rows -/

section Shares
variable (c : Dev nD)

omit [FloatOps F] in
/-- Half and half. -/
theorem aAt_halves (I : Finset Pos) (f : Buf512 F) :
    aAt c fullShare I f ⊣⊢ iprop(aAt c fullShare.left I f ∗ aAt c fullShare.right I f) := by
  unfold aAt
  exact pointsTo_share (PosShare.mem_left_op_right _)

theorem others_nonempty : (others c).Nonempty := Finset.card_pos.mp (by rw [card_others]; decide)

omit [FloatOps F] in
/-- One half dealt to the copies to the other devices. -/
theorem aAt_dealt (I : Finset Pos) (f : Buf512 F) :
    aAt c fullShare.right I f = bigSep (others c) fun d => aAt c (shareOf c d) I f := by
  unfold aAt shareOf
  exact Transfers.pointsTo_deal (others c) (others_nonempty c) _

omit [FloatOps F] in
/-- The own slot, made ready for the copies: half of it kept. -/
theorem aAt_deal (f : Buf512 F) :
    aAt c fullShare (slotSet c) f ⊢ iprop(aAt c fullShare.left (slotSet c) f ∗ bigSep (others c) fun d => aAt c (shareOf c d) (slotSet c) f) := by
  rw [← aAt_dealt]
  exact (aAt_halves c _ f).1

omit [FloatOps F] in
/-- The half kept and the slots arrived: half of the whole buffer, to be read, and half of what arrived. -/
theorem aAt_gather (f : Buf512 F) :
    iprop(aAt c fullShare.left (slotSet c) f ∗ bigSep (others c) fun d => aAt c fullShare (slotSet d) f)
      ⊢ iprop(aAt c fullShare.left Finset.univ f ∗ bigSep (others c) fun d => aAt c fullShare.right (slotSet d) f) := by
  rw [aAt_slots c fullShare.left f]
  iintro ⟨Ho, Hs⟩
  ihave Hs' := (show (bigSep (others c) fun d => aAt c fullShare (slotSet d) f)
    ⊢ iprop((bigSep (others c) fun d => aAt c fullShare.left (slotSet d) f) ∗ bigSep (others c) fun d => aAt c fullShare.right (slotSet d) f) from by
      rw [← bigSep_sep']; exact bigSep_mono fun d _ => (aAt_halves c _ f).1) $$ Hs
  icases Hs' with ⟨Hl, Hr⟩
  isplitl [Ho Hl]
  · isplitl [Ho] <;> iassumption
  iexact Hr

omit [FloatOps F] in
/-- All of it again, when the copies have ended. -/
theorem aAt_return (f : Buf512 F) :
    iprop(aAt c fullShare.left Finset.univ f ∗ (bigSep (others c) fun d => aAt c fullShare.right (slotSet d) f)
        ∗ bigSep (others c) fun d => aAt c (shareOf c d) (slotSet c) f)
      ⊢ aAt c fullShare Finset.univ f := by
  rw [← aAt_dealt]
  refine .trans ?_ (aAt_halves c _ f).2
  rw [aAt_slots c fullShare.right f]
  iintro ⟨Hl, Hr, Ho⟩
  isplitl [Hl]; · iexact Hl
  isplitl [Ho] <;> iassumption

end Shares

end Cert.FusedMlp

end
-- ==== Proof.Access.lean ====
/-
# The loads and stores of the body

One rule for a load of part of a buffer, one for a store into part of it, and what they read and leave for the parts the body
uses: a block of the partial product, the device's own slot, the whole buffer.
-/
module

public import proofs.«01_k».proof.Proof.Parts

@[expose] public section

noncomputable section

namespace Cert.FusedMlp

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (c : Dev nD)

/-! ## Rules -/

section Rules

/-- A load of a rectangle held at any share. -/
theorem wp_get {α : Type} {Q : α → sProp 𝕄} {S : Shape} {M : Memref sig .tc .vmem S .bf16} {r : Rect S} {hl : 0 < r.shape.numel} {k : Vec F r.shape .bf16 → Prog (Ops F) α}
    {I : Finset (Idx ((M.access r).loc (c : Thread nD τ)))} {q : PosShare TreeShare} {f : Buf (Elt F) ((M.access r).loc (c : Thread nD τ))}
    (hI : (M.access r).set ⊆ I) :
    ((M.access r).loc (c : Thread nD τ) ↦[I]{q} f : sProp 𝕄)
      ⊢ iprop((((M.access r).loc (c : Thread nD τ) ↦[I]{q} f) -∗ WP c (k ((M.access r).read (Elt F) f)) Q) -∗ WP c (get M r hl >>= k) Q) := by
  unfold get
  simp only [Prog.lift, Prog.bind_op, Prog.bind_ret]
  exact wp_load_rect 𝒱₀ (c : Thread nD τ) none Set.univ (m := M) (r := r) hI

/-- A store into a rectangle held whole. -/
theorem wp_put {α : Type} {Q : α → sProp 𝕄} {M : Memref sig .tc .vmem S512x512 .bf16} {r : Rect S512x512} {hl : 0 < r.shape.numel} {hs : (M.access r).StoreExact Finset.univ}
    {v : Vec F r.shape .bf16} {k : Prog (Ops F) α}
    {I : Finset (Idx ((M.access r).loc (c : Thread nD τ)))} {f : Buf (Elt F) ((M.access r).loc (c : Thread nD τ))}
    (hI : (M.access r).set ⊆ I) :
    ((M.access r).loc (c : Thread nD τ) ↦[I]{fullShare} f : sProp 𝕄)
      ⊢ iprop((((M.access r).loc (c : Thread nD τ) ↦[I]{fullShare} ((M.access r).write (Elt F) f v Finset.univ)) -∗ WP c k Q) -∗ WP c (put M r hl hs v k) Q) := by
  unfold put
  iintro H Hk
  iapply (wp_get c hI) $$ H
  iintro H
  simp only [Prog.lift, Prog.bind_op, Prog.bind_ret]
  iapply (wp_store 𝒱₀ (c : Thread nD τ) none Set.univ (m := M) (r := r) (Mk := Finset.univ) hI) $$ H
  iexact Hk

/-- Block `j` of a partial product stored. -/
theorem wp_putBlk {α : Type} {Q : α → sProp 𝕄} (j : Fin 4) {hl : 0 < (blkR j).shape.numel} {hs : (sM.access (blkR j)).StoreExact Finset.univ}
    (p : Fin 4 → Vec F S128x512 .bf16) {k : Prog (Ops F) α} (f : Buf512 F) :
    sAt c (blkSet j) f ⊢ iprop((sAt c (blkSet j) (joinBlks p) -∗ WP c k Q) -∗ WP c (put sM (blkR j) hl hs (p j) k) Q) := by
  have e : sAt c (blkSet j) ((sM.access (blkR j)).write (Elt F) f (p j) Finset.univ) = sAt c (blkSet j) (joinBlks p) := by
    unfold sAt
    refine pointsTo_congr fun i hi => ?_
    obtain rfl := mem_blkSet.mp hi
    have hw := store_blk (Elt F) f (p (blkOf i)) (blkOf i) (inBlk i)
    rw [emb_inBlk] at hw
    exact hw
  rw [← e]
  unfold sAt
  exact wp_put c (M := sM) (r := blkR j) (set_blk j).subset

/-- The device's own slot of its partial product loaded. -/
theorem wp_getOwn {α : Type} {Q : α → sProp 𝕄} {hl : 0 < (ownR' c).shape.numel} {k : Vec F (ownR' c).shape .bf16 → Prog (Ops F) α} (f : Buf512 F) :
    sAt c (slotSet c) f ⊢ iprop((sAt c (slotSet c) f -∗ WP c (k fun x => f (slotAt c x)) Q) -∗ WP c (get sM (ownR' c) hl >>= k) Q) := by
  have h : ∀ (off : Fin 2 → Nat) (inb : ∀ a, off a + S16x512.size a ≤ S512x512.size a) (ho : off = ![16 * c.val, 0])
      (hl : 0 < (Rect.unit (s := S512x512) off S16x512.size inb).shape.numel) (k : Vec F S16x512 .bf16 → Prog (Ops F) α),
      sAt c (slotSet c) f ⊢ iprop((sAt c (slotSet c) f -∗ WP c (k fun x => f (slotAt c x)) Q)
        -∗ WP c (get sM (Rect.unit (s := S512x512) off S16x512.size inb) hl >>= k) Q) := by
    intro off inb ho hl k
    subst ho
    unfold sAt
    exact wp_get c (M := sM) (r := slotR c) (set_s c).subset
  exact h _ _ (k0_off33_eq c) hl k

omit [FloatOps F] in
/-- The own slot after a store, at any contents that agree with what was stored. -/
theorem stored_r (f : Buf512 F) (v : Vec F S16x512 .bf16) (g : Buf512 F) (hg : ∀ x, g (slotAt c x) = v x) :
    rAt c (slotSet c) ((rM.access (slotR c)).write (Elt F) f v Finset.univ) = rAt c (slotSet c) g := by
  unfold rAt
  refine pointsTo_congr fun i hi => ?_
  have e : i = slotAt c (inSlot i) := by rw [← mem_slotSet.mp hi]; exact (slotAt_inSlot i).symm
  rw [e]
  exact (store_slot_r (Elt F) f v c (inSlot i)).trans (hg (inSlot i)).symm

/-- The device's own slot of the received pieces stored. -/
theorem wp_putOwn_r {α : Type} {Q : α → sProp 𝕄} {hl : 0 < (ownR' c).shape.numel} {hs : (rM.access (ownR' c)).StoreExact Finset.univ}
    {v : Vec F S16x512 .bf16} {k : Prog (Ops F) α} (f g : Buf512 F) (hg : ∀ x, g (slotAt c x) = v x) :
    rAt c (slotSet c) f ⊢ iprop((rAt c (slotSet c) g -∗ WP c k Q) -∗ WP c (put rM (ownR' c) hl hs v k) Q) := by
  have h : ∀ (off : Fin 2 → Nat) (inb : ∀ a, off a + S16x512.size a ≤ S512x512.size a) (ho : off = ![16 * c.val, 0])
      (hl : 0 < (Rect.unit (s := S512x512) off S16x512.size inb).shape.numel) (hs : (rM.access (Rect.unit (s := S512x512) off S16x512.size inb)).StoreExact Finset.univ),
      rAt c (slotSet c) f ⊢ iprop((rAt c (slotSet c) g -∗ WP c k Q)
        -∗ WP c (put rM (Rect.unit (s := S512x512) off S16x512.size inb) hl hs v k) Q) := by
    intro off inb ho hl hs
    subst ho
    rw [← stored_r c f v g hg]
    unfold rAt
    exact wp_put c (M := rM) (r := slotR c) (set_r c).subset
  exact h _ _ (k0_off33_eq c) hl hs

omit [FloatOps F] in
/-- The own slot after a store, at any contents that agree with what was stored. -/
theorem stored_a (f : Buf512 F) (v : Vec F S16x512 .bf16) (g : Buf512 F) (hg : ∀ x, g (slotAt c x) = v x) :
    aAt c fullShare (slotSet c) ((aM.access (slotR c)).write (Elt F) f v Finset.univ) = aAt c fullShare (slotSet c) g := by
  unfold aAt
  refine pointsTo_congr fun i hi => ?_
  have e : i = slotAt c (inSlot i) := by rw [← mem_slotSet.mp hi]; exact (slotAt_inSlot i).symm
  rw [e]
  exact (store_slot_a (Elt F) f v c (inSlot i)).trans (hg (inSlot i)).symm

/-- The device's own slot of the reduced rows stored. -/
theorem wp_putOwn_a {α : Type} {Q : α → sProp 𝕄} {hl : 0 < (ownR' c).shape.numel} {hs : (aM.access (ownR' c)).StoreExact Finset.univ}
    {v : Vec F S16x512 .bf16} {k : Prog (Ops F) α} (f g : Buf512 F) (hg : ∀ x, g (slotAt c x) = v x) :
    aAt c fullShare (slotSet c) f ⊢ iprop((aAt c fullShare (slotSet c) g -∗ WP c k Q) -∗ WP c (put aM (ownR' c) hl hs v k) Q) := by
  have h : ∀ (off : Fin 2 → Nat) (inb : ∀ a, off a + S16x512.size a ≤ S512x512.size a) (ho : off = ![16 * c.val, 0])
      (hl : 0 < (Rect.unit (s := S512x512) off S16x512.size inb).shape.numel) (hs : (aM.access (Rect.unit (s := S512x512) off S16x512.size inb)).StoreExact Finset.univ),
      aAt c fullShare (slotSet c) f ⊢ iprop((aAt c fullShare (slotSet c) g -∗ WP c k Q)
        -∗ WP c (put aM (Rect.unit (s := S512x512) off S16x512.size inb) hl hs v k) Q) := by
    intro off inb ho hl hs
    subst ho
    rw [← stored_a c f v g hg]
    unfold aAt
    exact wp_put c (M := aM) (r := slotR c) (set_a c).subset
  exact h _ _ (k0_off33_eq c) hl hs

/-- The 32 slots of the received pieces loaded. -/
theorem wp_slotLoads {α : Type} {Q : α → sProp 𝕄} {k : (Fin 32 → Vec F S16x512 .bf16) → Prog (Ops F) α} (P : Dev nD → Buf512 F) :
    rAt c Finset.univ (landed P c) ⊢ iprop((rAt c Finset.univ (landed P c) -∗ WP c (k (pieces P c)) Q) -∗ WP c (readAll 32 slotLoad k) Q) := by
  refine wp_readAll c 32 slotLoad (pieces P c) (fun t k => ?_) k
  have e : (rM.access (slotR t)).read (Elt F) (landed P c) = pieces P c t := funext fun x => landed_slotAt P c t x
  rw [← e]
  unfold rAt
  exact wp_get c (M := rM) (r := slotR t) (hl := h_S16x512) (Finset.subset_univ _)

end Rules

end Cert.FusedMlp

end
-- ==== Proof.Phases.lean ====
/-
# The phases of the body

What a device holds before and after each phase: the signals and the barrier, the copies of a block of its partial product,
the waits for the pieces, the copies of its reduced rows, the waits for those of the others, the waits for its own copies.
-/
module

public import proofs.«01_k».proof.Proof.Access
public import Idealize.ShloMosaic.Lib.Pipeline.Value

@[expose] public section

noncomputable section

namespace Cert.FusedMlp

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (P : Dev nD → Buf512 F) (K : Dev nD × Fin 5 → ℕ) (c : Dev nD)

/-- What a device still owes, whatever it has waited for. -/
def owing (O : CellTallies nD τ sig Unit) : sProp 𝕄 := iprop(∃ W, owes (c : Thread nD τ) O W)

/-! ## The barrier -/

/-- The signals: the slots of the others in the two receiving buffers go to them, the device's own stay. -/
theorem wp_enter {α : Type} {k : Prog (Ops F) α} {Q : α → sProp 𝕄} :
    iprop(records P K ∗ owing c (O₀ c) ∗ (∃ f, rAt c Finset.univ f) ∗ (∃ f, aAt c fullShare Finset.univ f)
        ∗ bigSep (others c) fun d => dutyTok ER (cell 0 d) 0 c)
      ⊢ iprop(((owing c (dues 4 (others c) + dues 2 (others c)) ∗ (∃ f, rAt c (slotSet c) f) ∗ (∃ f, aAt c fullShare (slotSet c) f)) -∗ WP c k Q)
          -∗ WP c (runAll ((sigDevs c).map sigStep) k) Q) := by
  have hs := fun W => wp_signals P K c (dues 4 (others c) + dues 2 (others c)) W (sigDevs c) (sigDevs_nodup c)
    (fun d hd => by
      have := List.mem_toFinset.mpr hd
      rw [sigDevs_toFinset] at this
      exact Finset.ne_of_mem_erase this) (k := k) (Q := Q)
  simp only [sigDevs_toFinset] at hs
  have hz : ∀ (f g : Buf512 F), iprop((bigSep (others c) fun d => rAt c (slotSet d) f) ∗ (bigSep (others c) fun d => aAt c fullShare (slotSet d) g)
        ∗ bigSep (others c) fun d => dutyTok ER (cell 0 d) 0 c)
      ⊢ bigSep (others c) fun d => iprop(dutyTok ER (cell 0 d) 0 c ∗ pay P 0 d c) := by
    intro f g
    rw [← bigSep_sep', ← bigSep_sep']
    have h1 : ∀ d, iprop(rAt c (slotSet d) f ∗ aAt c fullShare (slotSet d) g ∗ dutyTok ER (cell 0 d) 0 c)
        ⊢ iprop(dutyTok ER (cell 0 d) 0 c ∗ (∃ f, rAt c (slotSet d) f) ∗ ∃ f, aAt c fullShare (slotSet d) f) := by
      intro d
      iintro ⟨H1, H2, H3⟩
      isplitl [H3]; · iexact H3
      isplitl [H1]
      · iexists f; iexact H1
      iexists g; iexact H2
    exact bigSep_mono fun d _ => h1 d
  unfold owing O₀
  iintro ⟨#HR, ⟨%W, HO⟩, ⟨%f, Hr⟩, ⟨%g, Ha⟩, Ht⟩ Hk
  ihave Hr' := (Entails.of_eq (rAt_slots c f)) $$ Hr
  ihave Ha' := (Entails.of_eq (aAt_slots c fullShare g)) $$ Ha
  icases Hr' with ⟨Hro, Hr⟩
  icases Ha' with ⟨Hao, Ha⟩
  iapply (hs W) $$ [HO Hr Ha Ht]
  · isplitr; · iexact HR
    isplitl [HO]; · iexact HO
    iapply (hz f g)
    isplitl [Hr]; · iexact Hr
    isplitl [Ha] <;> iassumption
  iintro HO
  iapply Hk
  isplitl [HO]; · iexists W; iexact HO
  isplitl [Hro]; · iexists f; iexact Hro
  iexists g; iexact Hao

/-- The barrier's wait: the slots of the device at all the others are its own to write. -/
theorem wp_barrier {α : Type} {k : Prog (Ops F) α} {Q : α → sProp 𝕄} :
    iprop(records P K ∗ levAts L lv ∗ owing c (dues 4 (others c) + dues 2 (others c)) ∗ cred (tallyAt (cell 0 c) () 31) ∗ atPos ER (cell 0 c) 0 ∅ 0)
      ⊢ iprop(((owing c (dues 4 (others c) + dues 2 (others c)) ∗ atPos ER (cell 0 c) 1 ∅ 0 ∗ bigSep (others c) (pay P 0 c)) -∗ WP c k Q)
          -∗ WP c (semWaitWord barS 31#32 >>= fun _ => k) Q) := by
  have e : (bigSep ((sched P).duties (cell 0 c) 0 \ ∅) fun d => (sched P).payload (cell 0 c) 0 d) = bigSep (others c) (pay P 0 c) := by
    rw [Finset.sdiff_empty, duties_eq P 0 c]; exact bigSep_congr fun d _ => payload_eq P 0 c d
  simp only [semWaitWord, Prog.lift, Prog.bind_op, Prog.bind_ret]
  unfold owing
  iintro ⟨#HR, #HL, ⟨%W, HO⟩, Hc, Ha⟩ Hk
  iapply (Rounds.wp_wait_rest_token 𝒱₀ ER (sched P) (c : Thread nD τ) none (κ := K (c, 0))
      (wpE_semWait_eq 𝒱₀ (c : Thread nD τ) none Set.univ) (Set.mem_univ _) () (O := dues 4 (others c) + dues 2 (others c)) (W := W) (R := 0) (m := 0) (T := ∅)
      ((expect_eq P 0 c).trans (by decide) |>.symm)) $$ [Hc HO Ha]
  · isplitr; · iapply (inv_at P K 0 c); iexact HR
    isplitl [Hc]; · iexact Hc
    isplitl [HO]; · iexact HO
    isplitr; · iapply (mayWait_bar c); iexact HL
    iexact Ha
  iintro ⟨HO, Ha, -, Hp⟩
  iapply Hk
  isplitl [HO]; · iexists _; iexact HO
  isplitl [Ha]; · iexact Ha
  iapply (Entails.of_eq e); iexact Hp

/-! ## The pieces -/

/-- What the copy to device `t` takes besides the slot sent. -/
def rsRest (t : Dev nD) : sProp 𝕄 :=
  iprop((∃ f, rAt t (slotSet c) f) ∗ dutyTok ER (cell 1 c) 0 t ∗ dutyTok ER (cell 2 t) 0 c)

/-- The copies of one block. -/
theorem wp_block {α : Type} {k : Prog (Ops F) α} {Q : α → sProp 𝕄} (O : CellTallies nD τ sig Unit) (j : Fin 4) :
    iprop(records P K ∗ owing c (O + dues 2 (grp c j)) ∗ sAt c (blkSet j) (P c) ∗ bigSep (grp c j) (rsRest c))
      ⊢ iprop(((owing c O ∗ ownIn c (P c) j ∗ bigSep (grp c j) fun _ => cred (tallyAt (cell 1 c) () N)) -∗ WP c k Q)
          -∗ WP c (sendsOf c (slotsOf j) k) Q) := by
  have hz : iprop((bigSep (grp c j) fun t => sAt c (slotSet t) (P c)) ∗ bigSep (grp c j) (rsRest c)) ⊢ bigSep (grp c j) (rsRes P c) := by
    rw [← bigSep_sep']
    refine bigSep_mono fun t _ => ?_
    unfold rsRest rsRes
    exact Entails.refl _
  unfold owing
  iintro ⟨#HR, ⟨%W, HO⟩, Hs, Hr⟩ Hk
  ihave Hs' := (sAt_blk_grp c j (P c)) $$ Hs
  icases Hs' with ⟨Hown, Hs⟩
  iapply (wp_sends P K c O W (slotsOf j) (slotsOf_nodup j)) $$ [HO Hs Hr]
  · isplitr; · iexact HR
    isplitl [HO]; · iexact HO
    iapply hz
    isplitl [Hs] <;> iassumption
  iintro ⟨HO, Hc⟩
  iapply Hk
  isplitl [HO]; · iexists W; iexact HO
  isplitl [Hown]; · iexact Hown
  iexact Hc

/-- The piece moved across is not changed. -/
theorem pay10_eq (v : Vec F S16x512 .bf16) : k0_pay10 v = v := by
  unfold k0_pay10
  exact shapeCast_self v _

/-- The device's own piece moved across. -/
theorem wp_afterSends {α : Type} {k : Prog (Ops F) α} {Q : α → sProp 𝕄} :
    iprop(sAt c (slotSet c) (P c) ∗ ∃ f, rAt c (slotSet c) f)
      ⊢ iprop(((sAt c (slotSet c) (P c) ∗ rAt c (slotSet c) (landed P c)) -∗ WP c k Q) -∗ WP c (afterSends c k) Q) := by
  unfold afterSends
  iintro ⟨Hs, ⟨%f, Hr⟩⟩ Hk
  iapply (wp_getOwn c (P c)) $$ Hs
  iintro Hs
  iapply (wp_putOwn_r c f (landed P c) fun x => ?_) $$ Hr
  · rw [pay10_eq]; exact landed_slotAt P c c x
  iintro Hr
  iapply Hk
  isplitl [Hs] <;> iassumption

/-- 31 waits in a row at one semaphore. -/
theorem wp_waits {k : Fin 5} (hk : k ≠ 0) {q : DmaSem sig} (hq : ksem k = .dma q) {A : Memref sig .tc .vmem S512x512 .bf16} {hA : A.IsWhole} {a : Dev nD}
    {B : Memref sig .tc .vmem S512x512 .bf16} {hB : B.IsWhole} {b : Dev nD} (hN : (slotM B b).view.dmaCredit = N)
    (O : CellTallies nD τ sig Unit) (hO : (levAts L lv : sProp 𝕄) ⊢ MayWait (c : Thread nD τ) (ksem k) () O)
    {α : Type} {p : Prog (Ops F) α} {Q : α → sProp 𝕄} :
    iprop(records P K ∗ levAts L lv ∗ owing c O ∗ cred (tallyAt (cell k c) () (31 * N)) ∗ atPos ER (cell k c) 0 ∅ 0)
      ⊢ iprop(((owing c O ∗ atPos ER (cell k c) 1 ∅ 0 ∗ bigSep (others c) (pay P k c)) -∗ WP c p Q)
          -∗ WP c (runAll (List.replicate 31 (slotWait q A hA a B hB b)) p) Q) := by
  have hl := wp_replicate c (I := fun j => iprop(records P K ∗ levAts L lv ∗ owing c O ∗ waited P c k 31 j)) (p := slotWait q A hA a B hB b) (n := 31) (q := p) (Q := Q)
    (fun j hj p => by
      unfold owing
      iintro ⟨#HR, #HL, HO, Hw⟩ Hk
      iapply (wp_slotWait P K c hq hN O hO hj) $$ [HO Hw]
      · isplitr; · iexact HR
        isplitr; · iexact HL
        isplitl [HO] <;> iassumption
      iintro ⟨HO, Hw⟩
      iapply Hk
      isplitr; · iexact HR
      isplitr; · iexact HL
      isplitl [HO] <;> iassumption)
  iintro ⟨#HR, #HL, HO, Hc, Ha⟩ Hk
  iapply hl $$ [HO Hc Ha]
  · isplitr; · iexact HR
    isplitr; · iexact HL
    isplitl [HO]; · iexact HO
    iapply (waited_zero P c k 31)
    isplitl [Hc] <;> iassumption
  iintro ⟨-, -, HO, Hw⟩
  imod (waited_all P K c hk) $$ [Hw] with ⟨Ha, Hp⟩
  · isplitr; · iexact HR
    iexact Hw
  iapply Hk
  isplitl [HO]; · iexact HO
  isplitl [Ha] <;> iassumption

/-- The waits for the pieces: the buffer of pieces is whole. -/
theorem wp_rsWaits {α : Type} {k : Prog (Ops F) α} {Q : α → sProp 𝕄} :
    iprop(records P K ∗ levAts L lv ∗ owing c (dues 4 (others c)) ∗ cred (tallyAt (cell 2 c) () (31 * N)) ∗ atPos ER (cell 2 c) 0 ∅ 0 ∗ rAt c (slotSet c) (landed P c))
      ⊢ iprop(((owing c (dues 4 (others c)) ∗ atPos ER (cell 2 c) 1 ∅ 0 ∗ rAt c Finset.univ (landed P c)) -∗ WP c k Q)
          -∗ WP c (runAll (List.replicate 31 (rsWait c)) k) Q) := by
  rw [rsWait_eq]
  iintro ⟨#HR, #HL, HO, Hc, Ha, Hr⟩ Hk
  iapply (wp_waits P K c (k := 2) (by decide) rfl (credit_r c) _ (mayWait_rs c)) $$ [HO Hc Ha]
  · isplitr; · iexact HR
    isplitr; · iexact HL
    isplitl [HO]; · iexact HO
    isplitl [Hc] <;> iassumption
  iintro ⟨HO, Ha, Hp⟩
  iapply Hk
  isplitl [HO]; · iexact HO
  isplitl [Ha]; · iexact Ha
  iapply (Entails.of_eq (rAt_slots c (landed P c)).symm)
  isplitl [Hr]; · iexact Hr
  iexact Hp

/-! ## The reduced rows -/

/-- What the copy to device `d` takes besides the rows sent. -/
def agRest (d : Dev nD) : sProp 𝕄 :=
  iprop((∃ f, aAt d fullShare (slotSet c) f) ∗ dutyTok ER (cell 3 c) 0 d ∗ dutyTok ER (cell 4 d) 0 c)

/-- The copies of the device's reduced rows to all the others; half of them kept. -/
theorem wp_spread {α : Type} {k : Prog (Ops F) α} {Q : α → sProp 𝕄} :
    iprop(records P K ∗ owing c (dues 4 (others c)) ∗ aAt c fullShare (slotSet c) (gathered P) ∗ bigSep (others c) (agRest c))
      ⊢ iprop(((owing c 0 ∗ aAt c fullShare.left (slotSet c) (gathered P) ∗ cred (tallyAt (cell 3 c) () (31 * N))) -∗ WP c k Q)
          -∗ WP c (runAll ((agDevs c).map (agStep c)) k) Q) := by
  have hs := fun W => wp_agCopies P K c 0 W (agDevs c) (agDevs_nodup c)
    (fun d hd => by
      have := List.mem_toFinset.mpr hd
      rw [agDevs_toFinset] at this
      exact Finset.ne_of_mem_erase this) (k := k) (Q := Q)
  simp only [agDevs_toFinset, zero_add] at hs
  have hz : iprop((bigSep (others c) fun d => aAt c (shareOf c d) (slotSet c) (gathered P)) ∗ bigSep (others c) (agRest c)) ⊢ bigSep (others c) (agRes P c) := by
    rw [← bigSep_sep']
    refine bigSep_mono fun t _ => ?_
    unfold agRest agRes
    exact Entails.refl _
  have hc := cred_sum (F := F) (cell 3 c) (others c)
  rw [card_others] at hc
  unfold owing
  iintro ⟨#HR, ⟨%W, HO⟩, Ha, Hr⟩ Hk
  ihave Ha' := (aAt_deal c (gathered P)) $$ Ha
  icases Ha' with ⟨Hl, Hd⟩
  iapply (hs W) $$ [HO Hd Hr]
  · isplitr; · iexact HR
    isplitl [HO]; · iexact HO
    iapply hz
    isplitl [Hd] <;> iassumption
  iintro ⟨HO, Hcs⟩
  iapply Hk
  isplitl [HO]; · iexists W; iexact HO
  isplitl [Hl]; · iexact Hl
  iapply (Entails.of_eq hc); iexact Hcs

theorem mayWait_none (k : Fin 5) : (levAts L lv : sProp 𝕄) ⊢ MayWait (c : Thread nD τ) (ksem k) () 0 := by
  rw [MayWait_zero]; iintro -; iempintro

/-- The waits for the others' reduced rows: all of them can be read. -/
theorem wp_agWaits {α : Type} {k : Prog (Ops F) α} {Q : α → sProp 𝕄} :
    iprop(records P K ∗ levAts L lv ∗ owing c 0 ∗ cred (tallyAt (cell 4 c) () (31 * N)) ∗ atPos ER (cell 4 c) 0 ∅ 0 ∗ aAt c fullShare.left (slotSet c) (gathered P))
      ⊢ iprop(((owing c 0 ∗ atPos ER (cell 4 c) 1 ∅ 0 ∗ aAt c fullShare.left Finset.univ (gathered P)
            ∗ bigSep (others c) fun d => aAt c fullShare.right (slotSet d) (gathered P)) -∗ WP c k Q)
          -∗ WP c (runAll (List.replicate 31 (agWait c)) k) Q) := by
  rw [agWait_eq]
  iintro ⟨#HR, #HL, HO, Hc, Ha, Hr⟩ Hk
  iapply (wp_waits P K c (k := 4) (by decide) rfl (credit_a c) _ (mayWait_none c 4)) $$ [HO Hc Ha]
  · isplitr; · iexact HR
    isplitr; · iexact HL
    isplitl [HO]; · iexact HO
    isplitl [Hc] <;> iassumption
  iintro ⟨HO, Ha, Hp⟩
  iapply Hk
  isplitl [HO]; · iexact HO
  isplitl [Ha]; · iexact Ha
  iapply (aAt_gather c (gathered P))
  isplitl [Hr]; · iexact Hr
  iexact Hp

/-- The waits for the device's own copies: what they carried comes back. -/
theorem wp_endWaits {α : Type} {k : Prog (Ops F) α} {Q : α → sProp 𝕄} :
    iprop(records P K ∗ levAts L lv ∗ owing c 0 ∗ cred (tallyAt (cell 1 c) () (31 * N)) ∗ atPos ER (cell 1 c) 0 ∅ 0
        ∗ cred (tallyAt (cell 3 c) () (31 * N)) ∗ atPos ER (cell 3 c) 0 ∅ 0)
      ⊢ iprop(((owing c 0 ∗ atPos ER (cell 1 c) 1 ∅ 0 ∗ bigSep (others c) (pay P 1 c) ∗ atPos ER (cell 3 c) 1 ∅ 0 ∗ bigSep (others c) (pay P 3 c)) -∗ WP c k Q)
          -∗ WP c (runAll (List.replicate 31 (endWait c)) k) Q) := by
  rw [endWait_eq]
  have hl := wp_replicate c (I := fun j => iprop(records P K ∗ levAts L lv ∗ owing c 0 ∗ waited P c 1 31 j ∗ waited P c 3 31 j))
    (p := slotWait rsSendS rM (Memref.isWhole_whole _) c sM (Memref.isWhole_whole _) 31 >>= fun _ => slotWait agSendS aM (Memref.isWhole_whole _) c aM (Memref.isWhole_whole _) c)
    (n := 31) (q := k) (Q := Q)
    (fun j hj p => by
      unfold owing
      rw [Prog.bind_assoc]
      iintro ⟨#HR, #HL, HO, Hw, Hv⟩ Hk
      iapply (wp_slotWait P K c (k := 1) rfl (credit_s 31) 0 (mayWait_none c 1) hj) $$ [HO Hw]
      · isplitr; · iexact HR
        isplitr; · iexact HL
        isplitl [HO] <;> iassumption
      iintro ⟨HO, Hw⟩
      iapply (wp_slotWait P K c (k := 3) rfl (credit_a c) 0 (mayWait_none c 3) hj) $$ [HO Hv]
      · isplitr; · iexact HR
        isplitr; · iexact HL
        isplitl [HO] <;> iassumption
      iintro ⟨HO, Hv⟩
      iapply Hk
      isplitr; · iexact HR
      isplitr; · iexact HL
      isplitl [HO]; · iexact HO
      isplitl [Hw] <;> iassumption)
  iintro ⟨#HR, #HL, HO, Hc, Ha, Hd, Hb⟩ Hk
  iapply hl $$ [HO Hc Ha Hd Hb]
  · isplitr; · iexact HR
    isplitr; · iexact HL
    isplitl [HO]; · iexact HO
    isplitl [Hc Ha]
    · iapply (waited_zero P c 1 31)
      isplitl [Hc] <;> iassumption
    · iapply (waited_zero P c 3 31)
      isplitl [Hd] <;> iassumption
  iintro ⟨-, -, HO, Hw, Hv⟩
  imod (waited_all P K c (k := 1) (by decide)) $$ [Hw] with ⟨Ha, Hp⟩
  · isplitr; · iexact HR
    iexact Hw
  imod (waited_all P K c (k := 3) (by decide)) $$ [Hv] with ⟨Hb, Hq⟩
  · isplitr; · iexact HR
    iexact Hv
  iapply Hk
  isplitl [HO]; · iexact HO
  isplitl [Ha]; · iexact Ha
  isplitl [Hp]; · iexact Hp
  isplitl [Hb] <;> iassumption

end Cert.FusedMlp

end
-- ==== Proof.Body.lean ====
/-
# One device's run of the body

The phases put together: from its inputs, its tokens and the three scratch buffers a device gets to its result, the sum over
all devices of their partial products, and all five of its semaphores are at zero again.
-/
module

public import proofs.«01_k».proof.Proof.Phases

@[expose] public section

noncomputable section

namespace Cert.FusedMlp

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-- The four blocks of the partial product of inputs `x`, `g`, `u`, `d`. -/
def parts (x : Vec F S512x512 .bf16) (g u : Vec F S512x1024 .bf16) (d : Vec F S1024x512 .bf16) : Fin 4 → Vec F S128x512 .bf16 :=
  ![part0 x g u d, part1 x g u d, part2 x g u d, part3 x g u d]

/-- The partial product of inputs `x`, `g`, `u`, `d`. -/
def partial' (x : Vec F S512x512 .bf16) (g u : Vec F S512x1024 .bf16) (d : Vec F S1024x512 .bf16) : Buf512 F := joinBlks (parts x g u d)

/-! ## The body with its blocks numbered -/

/-- From the barrier's wait to the last copy of the partial product. -/
def sendAll (c : Dev nD) (p : Fin 4 → Vec F S128x512 .bf16) {α : Type} (k : Prog (Ops F) α) : Prog (Ops F) α :=
  sendsOf c (slotsOf 0) <|
  put sM (blkR 1) h_S128x512 store_blk1 (p 1) <|
  sendsOf c (slotsOf 1) <|
  put sM (blkR 2) h_S128x512 store_blk2 (p 2) <|
  sendsOf c (slotsOf 2) <|
  put sM (blkR 3) h_S128x512 store_blk3 (p 3) <|
  sendsOf c (slotsOf 3) k

/-- The result read and stored. -/
def writeOut {α : Type} (k : Prog (Ops F) α) : Prog (Ops F) α :=
  get aM all512 h_S512x512 >>= fun v =>
  Prog.lift (.load oM all512.toLoadRect (View.loadsAt_vmem h_S512x512)) >>= fun _ =>
  Prog.lift (.store oM all512 (k0_pay42 v) Finset.univ (View.stores_vmem_bits_univ h_S512x512 rfl) (.inl rfl)) >>= fun _ => k

/-- What device `c` runs. -/
def deviceRun (c : Dev nD) : Prog (Ops F) PUnit :=
  runAll ((sigDevs c).map sigStep) <|
  get xM all512 h_S512x512 >>= fun x =>
  get gM all1024 h_S512x1024 >>= fun g =>
  get uM all1024 h_S512x1024 >>= fun u =>
  get dM allDown h_S1024x512 >>= fun d =>
  put sM (blkR 0) h_S128x512 store_blk0 (parts x g u d 0) <|
  semWaitWord barS 31#32 >>= fun _ =>
  sendAll c (parts x g u d) <|
  afterSends c <|
  runAll (List.replicate 31 (rsWait c)) <|
  readAll 32 slotLoad fun w =>
  put aM (ownR' c) h_S16x512 (store_a c) (sum32 w) <|
  runAll ((agDevs c).map (agStep c)) <|
  runAll (List.replicate 31 (agWait c)) <|
  writeOut <|
  runAll (List.replicate 31 (endWait c)) (pure ⟨⟩)

theorem flat_eq : (flat : Prog (Ops F) PUnit) = (Prog.lift .deviceId >>= deviceRun) := rfl

/-! ## The two middle phases -/

section Middle
variable (P : Dev nD → Buf512 F) (K : Dev nD × Fin 5 → ℕ) (c : Dev nD)

/-- The blocks stored and their slots sent, one block after another. -/
theorem wp_sendAll (p : Fin 4 → Vec F S128x512 .bf16) (hp : P c = joinBlks p) (f : Buf512 F) {α : Type} {k : Prog (Ops F) α} {Q : α → sProp 𝕄} :
    iprop(records P K ∗ owing c (dues 4 (others c) + dues 2 (others c)) ∗ sAt c (blkSet 0) (P c)
        ∗ sAt c (blkSet 1) f ∗ sAt c (blkSet 2) f ∗ sAt c (blkSet 3) f ∗ bigSep (others c) (rsRest c))
      ⊢ iprop(((owing c (dues 4 (others c)) ∗ sAt c (slotSet c) (P c) ∗ cred (tallyAt (cell 1 c) () (31 * N))) -∗ WP c k Q)
          -∗ WP c (sendAll c p k) Q) := by
  have hc := cred_sum (F := F) (cell 1 c) (others c)
  rw [card_others, bigSep_groups] at hc
  unfold sendAll
  rw [dues_groups, bigSep_groups, ← add_assoc, ← add_assoc, ← add_assoc]
  iintro ⟨#HR, HO, Hs0, Hs1, Hs2, Hs3, Ht0, Ht1, Ht2, Ht3⟩ Hk
  iapply (wp_block P K c (dues 4 (others c) + dues 2 (grp c 3) + dues 2 (grp c 2) + dues 2 (grp c 1)) 0) $$ [HO Hs0 Ht0]
  · isplitr; · iexact HR
    isplitl [HO]; · iexact HO
    isplitl [Hs0] <;> iassumption
  iintro ⟨HO, Ho0, Hc0⟩
  iapply (wp_putBlk c 1 p f) $$ Hs1
  iintro Hs1
  iapply (wp_block P K c (dues 4 (others c) + dues 2 (grp c 3) + dues 2 (grp c 2)) 1) $$ [HO Hs1 Ht1]
  · isplitr; · iexact HR
    isplitl [HO]; · iexact HO
    isplitl [Hs1]; · iapply (Entails.of_eq (congrArg (sAt c (blkSet 1)) hp.symm)); iexact Hs1
    iexact Ht1
  iintro ⟨HO, Ho1, Hc1⟩
  iapply (wp_putBlk c 2 p f) $$ Hs2
  iintro Hs2
  iapply (wp_block P K c (dues 4 (others c) + dues 2 (grp c 3)) 2) $$ [HO Hs2 Ht2]
  · isplitr; · iexact HR
    isplitl [HO]; · iexact HO
    isplitl [Hs2]; · iapply (Entails.of_eq (congrArg (sAt c (blkSet 2)) hp.symm)); iexact Hs2
    iexact Ht2
  iintro ⟨HO, Ho2, Hc2⟩
  iapply (wp_putBlk c 3 p f) $$ Hs3
  iintro Hs3
  iapply (wp_block P K c (dues 4 (others c)) 3) $$ [HO Hs3 Ht3]
  · isplitr; · iexact HR
    isplitl [HO]; · iexact HO
    isplitl [Hs3]; · iapply (Entails.of_eq (congrArg (sAt c (blkSet 3)) hp.symm)); iexact Hs3
    iexact Ht3
  iintro ⟨HO, Ho3, Hc3⟩
  iapply Hk
  isplitl [HO]; · iexact HO
  isplitl [Ho0 Ho1 Ho2 Ho3]
  · iapply (own_slot c (P c))
    isplitl [Ho0]; · iexact Ho0
    isplitl [Ho1]; · iexact Ho1
    isplitl [Ho2]; · iexact Ho2
    iexact Ho3
  iapply (Entails.of_eq hc)
  isplitl [Hc0]; · iexact Hc0
  isplitl [Hc1]; · iexact Hc1
  isplitl [Hc2]; · iexact Hc2
  iexact Hc3

/-- The output's staging buffer. -/
def oAt (f : Vec F S512x512 .f32) : sProp 𝕄 := ((c : Thread nD τ).loc cc0_stg4_0) ↦{fullShare} f

theorem off_zero : (![0, 0] : Fin 2 → Nat) = fun _ => 0 := by funext a; fin_cases a <;> rfl

/-- The result stored. -/
theorem wp_writeOut (q : PosShare TreeShare) (a : Buf512 F) (f : Vec F S512x512 .f32) {α : Type} {k : Prog (Ops F) α} {Q : α → sProp 𝕄} :
    iprop(aAt c q Finset.univ a ∗ oAt c f) ⊢ iprop(((aAt c q Finset.univ a ∗ oAt c (k0_pay42 a)) -∗ WP c k Q) -∗ WP c (writeOut k) Q) := by
  have e : (aM.access all512).read (Elt F) a = a := Memref.readAt_unit_zero (Elt F) cc0_scratch2 off_zero _ a
  have e' : (oM.access all512).write (Elt F) f (k0_pay42 a) Finset.univ = k0_pay42 a :=
    Memref.write_access_unit_zero_univ (Elt F) cc0_stg4_0 off_zero _ f (k0_pay42 a)
  unfold writeOut aAt oAt
  iintro ⟨Ha, Ho⟩ Hk
  iapply (wp_get c (M := aM) (r := all512) (Finset.subset_univ _)) $$ Ha
  rw [e]
  iintro Ha
  simp only [Prog.lift, Prog.bind_op, Prog.bind_ret]
  iapply (wp_load 𝒱₀ (c : Thread nD τ) none Set.univ (m := oM) (Finset.subset_univ _)) $$ Ho
  iintro Ho
  iapply (wp_store 𝒱₀ (c : Thread nD τ) none Set.univ (m := oM) (r := all512) (Mk := Finset.univ) (Finset.subset_univ _)) $$ Ho
  rw [e']
  iintro Ho
  iapply Hk
  isplitl [Ha] <;> iassumption

end Middle

/-! ## The whole run -/

/-- The inputs of device `c` as they stand in its memory. -/
def ins (c : Dev nD) (x : Vec F S512x512 .bf16) (g u : Vec F S512x1024 .bf16) (d : Vec F S1024x512 .bf16) : sProp 𝕄 :=
  iprop((((c : Thread nD τ).loc cc0_stg0_0) ↦{fullShare} x) ∗ (((c : Thread nD τ).loc cc0_stg1_0) ↦{fullShare} g)
    ∗ (((c : Thread nD τ).loc cc0_stg2_0) ↦{fullShare} u) ∗ (((c : Thread nD τ).loc cc0_stg3_0) ↦{fullShare} d))

/-- The rights of device `c` to raise semaphores, one of each kind with each other device. -/
def toks (c : Dev nD) : sProp 𝕄 :=
  bigSep (others c) fun d => iprop(dutyTok ER (cell 0 d) 0 c ∗ dutyTok ER (cell 1 c) 0 d ∗ dutyTok ER (cell 2 d) 0 c
    ∗ dutyTok ER (cell 3 c) 0 d ∗ dutyTok ER (cell 4 d) 0 c)

/-- The device is at the first round of its five semaphores, -/
def ats (c : Dev nD) : sProp 𝕄 :=
  iprop(atPos ER (cell 0 c) 0 ∅ 0 ∗ atPos ER (cell 1 c) 0 ∅ 0 ∗ atPos ER (cell 2 c) 0 ∅ 0 ∗ atPos ER (cell 3 c) 0 ∅ 0 ∗ atPos ER (cell 4 c) 0 ∅ 0)

/-- and may wait for what the others owe it. -/
def creds (c : Dev nD) : sProp 𝕄 :=
  iprop(cred (tallyAt (cell 0 c) () 31) ∗ cred (tallyAt (cell 2 c) () (31 * N)) ∗ cred (tallyAt (cell 4 c) () (31 * N)))

/-- The three scratch buffers, whatever they hold. -/
def scratch (c : Dev nD) : sProp 𝕄 :=
  iprop((∃ f, sAt c Finset.univ f) ∗ (∃ f, rAt c Finset.univ f) ∗ ∃ f, aAt c fullShare Finset.univ f)

/-- All five semaphores at zero. -/
def zeros (c : Dev nD) : sProp 𝕄 :=
  iprop(semVal (cell 0 c) 0 ∗ semVal (cell 1 c) 0 ∗ semVal (cell 2 c) 0 ∗ semVal (cell 3 c) 0 ∗ semVal (cell 4 c) 0)

section Run
variable (P : Dev nD → Buf512 F) (K : Dev nD × Fin 5 → ℕ) (c : Dev nD)

/-- The device's tokens, once the barrier has handed it its slots at the others, sorted by the copies that use them. -/
theorem toks_split : toks (F := F) c
    ⊢ iprop((bigSep (others c) fun d => dutyTok ER (cell 0 d) 0 c)
        ∗ bigSep (others c) fun d => iprop(dutyTok ER (cell 1 c) 0 d ∗ dutyTok ER (cell 2 d) 0 c ∗ dutyTok ER (cell 3 c) 0 d ∗ dutyTok ER (cell 4 d) 0 c)) := by
  unfold toks
  rw [bigSep_sep']

theorem rests : iprop((bigSep (others c) fun d => iprop(dutyTok ER (cell 1 c) 0 d ∗ dutyTok ER (cell 2 d) 0 c ∗ dutyTok ER (cell 3 c) 0 d ∗ dutyTok ER (cell 4 d) 0 c))
      ∗ bigSep (others c) (pay P 0 c))
    ⊢ iprop(bigSep (others c) (rsRest c) ∗ bigSep (others c) (agRest c)) := by
  rw [← bigSep_sep', ← bigSep_sep']
  have h : ∀ d, iprop((dutyTok ER (cell 1 c) 0 d ∗ dutyTok ER (cell 2 d) 0 c ∗ dutyTok ER (cell 3 c) 0 d ∗ dutyTok ER (cell 4 d) 0 c)
        ∗ (∃ f, rAt (F := F) d (slotSet c) f) ∗ ∃ f, aAt d fullShare (slotSet c) f)
      ⊢ iprop(rsRest c d ∗ agRest c d) := by
    intro d
    unfold rsRest agRest
    iintro ⟨⟨H1, H2, H3, H4⟩, Hr, Ha⟩
    isplitl [H1 H2 Hr]
    · isplitl [Hr]; · iexact Hr
      isplitl [H1] <;> iassumption
    isplitl [Ha]; · iexact Ha
    isplitl [H3] <;> iassumption
  exact bigSep_mono fun d _ => h d

theorem close_cell (k : Fin 5) : iprop(records P K ∗ atPos ER (cell k c) 1 ∅ 0) ⊢ iprop(|={Set.univ}=> semVal (cell k c) 0) := by
  have h := Rounds.cell_close ER (sched P) (Set.mem_univ (K (c, k))) (fun h => h) (R := 1) (duties_later P (cell k c))
  iintro ⟨#HR, Ha⟩
  iapply h
  isplitr; · iapply (inv_at P K k c); iexact HR
  iexact Ha

theorem wp_loads {x : Vec F S512x512 .bf16} {g u : Vec F S512x1024 .bf16} {d : Vec F S1024x512 .bf16} {α : Type} {Q : α → sProp 𝕄}
    {k : Vec F S512x512 .bf16 → Vec F S512x1024 .bf16 → Vec F S512x1024 .bf16 → Vec F S1024x512 .bf16 → Prog (Ops F) α} :
    ins c x g u d ⊢ iprop((ins c x g u d -∗ WP c (k x g u d) Q)
      -∗ WP c (get xM all512 h_S512x512 >>= fun x => get gM all1024 h_S512x1024 >>= fun g => get uM all1024 h_S512x1024 >>= fun u =>
          get dM allDown h_S1024x512 >>= fun d => k x g u d) Q) := by
  have ex : (xM.access all512).read (Elt F) x = x := Memref.readAt_unit_zero (Elt F) cc0_stg0_0 off_zero _ x
  have eg : (gM.access all1024).read (Elt F) g = g := Memref.readAt_unit_zero (Elt F) cc0_stg1_0 off_zero _ g
  have eu : (uM.access all1024).read (Elt F) u = u := Memref.readAt_unit_zero (Elt F) cc0_stg2_0 off_zero _ u
  have ed : (dM.access allDown).read (Elt F) d = d := Memref.readAt_unit_zero (Elt F) cc0_stg3_0 off_zero _ d
  unfold ins
  iintro ⟨Hx, Hg, Hu, Hd⟩ Hk
  iapply (wp_get c (M := xM) (r := all512) (Finset.subset_univ _)) $$ Hx
  rw [ex]
  iintro Hx
  iapply (wp_get c (M := gM) (r := all1024) (Finset.subset_univ _)) $$ Hg
  rw [eg]
  iintro Hg
  iapply (wp_get c (M := uM) (r := all1024) (Finset.subset_univ _)) $$ Hu
  rw [eu]
  iintro Hu
  iapply (wp_get c (M := dM) (r := allDown) (Finset.subset_univ _)) $$ Hd
  rw [ed]
  iintro Hd
  iapply Hk
  isplitl [Hx]; · iexact Hx
  isplitl [Hg]; · iexact Hg
  isplitl [Hu] <;> iassumption

/-- From its inputs and its empty scratch to the result. -/
theorem wp_deviceRun {x : Vec F S512x512 .bf16} {g u : Vec F S512x1024 .bf16} {d : Vec F S1024x512 .bf16} (hP : P c = partial' x g u d)
    {Q : PUnit → sProp 𝕄} :
    iprop(records P K ∗ levAts L lv ∗ owing c (O₀ c) ∗ ats c ∗ creds c ∗ toks c ∗ scratch c ∗ ins c x g u d ∗ ∃ f, oAt c f)
      ⊢ iprop(((owing c 0 ∗ zeros c ∗ scratch c ∗ ins c x g u d ∗ oAt c (k0_pay42 (gathered P))) -∗ Q ⟨⟩) -∗ WP c (deviceRun c) Q) := by
  unfold deviceRun ats creds scratch
  iintro ⟨#HR, #HL, HO, ⟨Ha0, Ha1, Ha2, Ha3, Ha4⟩, ⟨Hc0, Hc2, Hc4⟩, Ht, ⟨⟨%s, Hs⟩, Hr, Ha⟩, Hi, ⟨%o, Ho⟩⟩ Hk
  ihave Ht' := (toks_split (F := F) c) $$ Ht
  icases Ht' with ⟨Ht0, Ht⟩
  iapply (wp_enter P K c) $$ [HO Hr Ha Ht0]
  · isplitr; · iexact HR
    isplitl [HO]; · iexact HO
    isplitl [Hr]; · iexact Hr
    isplitl [Ha] <;> iassumption
  iintro ⟨HO, Hr, Ha⟩
  iapply (wp_loads c) $$ Hi
  iintro Hi
  ihave Hs' := (Entails.of_eq (sAt_blks c s)) $$ Hs
  icases Hs' with ⟨Hs0, Hs1, Hs2, Hs3⟩
  iapply (wp_putBlk c 0 (parts x g u d) s) $$ Hs0
  iintro Hs0
  iapply (wp_barrier P K c) $$ [HO Hc0 Ha0]
  · isplitr; · iexact HR
    isplitr; · iexact HL
    isplitl [HO]; · iexact HO
    isplitl [Hc0] <;> iassumption
  iintro ⟨HO, Ha0, Hp⟩
  ihave Hre := (rests P c) $$ [Ht Hp]
  · isplitl [Ht] <;> iassumption
  icases Hre with ⟨Hrs, Hag⟩
  iapply (wp_sendAll P K c (parts x g u d) hP s) $$ [HO Hs0 Hs1 Hs2 Hs3 Hrs]
  · isplitr; · iexact HR
    isplitl [HO]; · iexact HO
    isplitl [Hs0]; · iapply (Entails.of_eq (congrArg (sAt c (blkSet 0)) hP.symm)); iexact Hs0
    isplitl [Hs1]; · iexact Hs1
    isplitl [Hs2]; · iexact Hs2
    isplitl [Hs3]; · iexact Hs3
    iexact Hrs
  iintro ⟨HO, Hs, Hc1⟩
  iapply (wp_afterSends P c) $$ [Hs Hr]
  · isplitl [Hs] <;> iassumption
  iintro ⟨Hs, Hr⟩
  iapply (wp_rsWaits P K c) $$ [HO Hc2 Ha2 Hr]
  · isplitr; · iexact HR
    isplitr; · iexact HL
    isplitl [HO]; · iexact HO
    isplitl [Hc2]; · iexact Hc2
    isplitl [Ha2] <;> iassumption
  iintro ⟨HO, Ha2, Hr⟩
  iapply (wp_slotLoads c P) $$ Hr
  iintro Hr
  icases Ha with ⟨%a, Ha⟩
  iapply (wp_putOwn_a c a (gathered P) fun x => gathered_slotAt P c x) $$ Ha
  iintro Ha
  iapply (wp_spread P K c) $$ [HO Ha Hag]
  · isplitr; · iexact HR
    isplitl [HO]; · iexact HO
    isplitl [Ha] <;> iassumption
  iintro ⟨HO, Ha, Hc3⟩
  iapply (wp_agWaits P K c) $$ [HO Hc4 Ha4 Ha]
  · isplitr; · iexact HR
    isplitr; · iexact HL
    isplitl [HO]; · iexact HO
    isplitl [Hc4]; · iexact Hc4
    isplitl [Ha4] <;> iassumption
  iintro ⟨HO, Ha4, Ha, Hah⟩
  iapply (wp_writeOut c fullShare.left (gathered P) o) $$ [Ha Ho]
  · isplitl [Ha] <;> iassumption
  iintro ⟨Ha, Ho⟩
  iapply (wp_endWaits P K c) $$ [HO Hc1 Ha1 Hc3 Ha3]
  · isplitr; · iexact HR
    isplitr; · iexact HL
    isplitl [HO]; · iexact HO
    isplitl [Hc1]; · iexact Hc1
    isplitl [Ha1]; · iexact Ha1
    isplitl [Hc3] <;> iassumption
  iintro ⟨HO, Ha1, Hps, Ha3, Hpa⟩
  imod (close_cell P K c 0) $$ [Ha0] with Hz0
  · isplitr; · iexact HR
    iexact Ha0
  imod (close_cell P K c 1) $$ [Ha1] with Hz1
  · isplitr; · iexact HR
    iexact Ha1
  imod (close_cell P K c 2) $$ [Ha2] with Hz2
  · isplitr; · iexact HR
    iexact Ha2
  imod (close_cell P K c 3) $$ [Ha3] with Hz3
  · isplitr; · iexact HR
    iexact Ha3
  imod (close_cell P K c 4) $$ [Ha4] with Hz4
  · isplitr; · iexact HR
    iexact Ha4
  rw [Prog.pure_eq_ret, wp_ret]
  imodintro
  iapply Hk
  isplitl [HO]; · iexact HO
  isplitl [Hz0 Hz1 Hz2 Hz3 Hz4]
  · unfold zeros
    isplitl [Hz0]; · iexact Hz0
    isplitl [Hz1]; · iexact Hz1
    isplitl [Hz2]; · iexact Hz2
    isplitl [Hz3] <;> iassumption
  isplitl [Hs Hps Hr Ha Hah Hpa]
  · isplitl [Hs Hps]
    · iexists (P c)
      iapply (Entails.of_eq (sAt_slots c (P c)).symm)
      isplitl [Hs]; · iexact Hs
      iexact Hps
    isplitl [Hr]; · iexists (landed P c); iexact Hr
    iexists (gathered P)
    iapply (aAt_return c (gathered P))
    isplitl [Ha]; · iexact Ha
    isplitl [Hah]; · iexact Hah
    iexact Hpa
  isplitl [Hi]; · iexact Hi
  iexact Ho

/-- The printed body does the same. -/
theorem wp_body {x : Vec F S512x512 .bf16} {g u : Vec F S512x1024 .bf16} {d : Vec F S1024x512 .bf16} (hP : P c = partial' x g u d)
    {Q : PUnit → sProp 𝕄} :
    iprop(records P K ∗ levAts L lv ∗ owing c (O₀ c) ∗ ats c ∗ creds c ∗ toks c ∗ scratch c ∗ ins c x g u d ∗ ∃ f, oAt c f)
      ⊢ iprop(((owing c 0 ∗ zeros c ∗ scratch c ∗ ins c x g u d ∗ oAt c (k0_pay42 (gathered P))) -∗ Q ⟨⟩) -∗ WP c (bodyAt0 t0_0) Q) := by
  have h : WP c (bodyAt0 t0_0) Q = WP c (deviceRun c) Q := by
    rw [body_flat, flat_eq]
    show wp frame _ Set.univ (.op TpuEff.deviceId fun c => _) Q = _
    rw [wp_deviceId]
    rfl
  rw [h]
  exact wp_deviceRun P K c hP

end Run

end Cert.FusedMlp

end
-- ==== Proof.Deal.lean ====
/-
# What the launch deals out

At the launch each device holds its five semaphores at zero and the tokens of its own five cells.  Here the cells become
invariants, known to all, and the tokens go to the devices that use them.
-/
module

public import proofs.«01_k».proof.Proof.Body

@[expose] public section

noncomputable section

namespace Cert.FusedMlp

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-! ## The cells and their tokens -/

/-- The semaphores that belong to the kernel: all but the barrier. -/
abbrev osem : Fin 4 → SemLoc sig := fun | 0 => ksem 1 | 1 => ksem 2 | 2 => ksem 3 | 3 => ksem 4

theorem ownSemFacts : Pipeline.OwnSemFacts cfg0.spec osem := by decide

abbrev cellAt (ck : Dev nD × Fin 5) : GSem nD τ sig := cell ck.2 ck.1

theorem cellAt_injective : Function.Injective cellAt := fun _ _ h =>
  Prod.ext (cell_eq_iff.mp h).2 (cell_eq_iff.mp h).1

def allCells : Finset (GSem nD τ sig) := Finset.univ.map ⟨cellAt, cellAt_injective⟩

/-- The token of the raise of a cell that another device names. -/
abbrev tokAt (x : (_ : Dev nD × Fin 5) × Dev nD) : GSem nD τ sig × ℕ × Dev nD := (cellAt x.1, 0, x.2)

theorem tokAt_injective : Function.Injective tokAt := by
  rintro ⟨a, d⟩ ⟨b, e⟩ h
  obtain rfl : a = b := cellAt_injective (congrArg (fun y => y.1) h)
  obtain rfl : d = e := congrArg (fun y => y.2.2) h
  rfl

def allToks : Finset (GSem nD τ sig × ℕ × Dev nD) :=
  ((Finset.univ : Finset (Dev nD × Fin 5)).sigma fun a => others a.1).map ⟨tokAt, tokAt_injective⟩

def u₀ : UU := (initOf (Pipeline.cells cfgs cellOf_inj) (Pipeline.launchToks cfgs cellOf_inj), initOf allCells allToks)

theorem bigSep_five (Φ : Fin 5 → sProp 𝕄) : bigSep Finset.univ Φ = iprop(Φ 0 ∗ Φ 1 ∗ Φ 2 ∗ Φ 3 ∗ Φ 4) :=
  bigSep_univ_eq_bigSepL [0, 1, 2, 3, 4] (by decide) (by decide) Φ

/-- The tokens of the cells of device `c`. -/
def cellToks (c : Dev nD) : sProp 𝕄 := bigSep Finset.univ fun k : Fin 5 => bigSep (others c) fun d => dutyTok ER (cell k c) 0 d

/-- A statement about each ordered pair of two devices may be read from either side. -/
theorem pairs_swap (Φ : Dev nD → Dev nD → sProp 𝕄) :
    (bigSep Finset.univ fun c => bigSep (others c) fun d => Φ c d) = bigSep Finset.univ fun c => bigSep (others c) fun d => Φ d c :=
  bigSep_erase_comm Φ

/-- The tokens go from the cells to the devices that raise them. -/
theorem toks_deal : (bigSep Finset.univ fun c : Dev nD => (cellToks (F := F) c)) = bigSep Finset.univ fun c : Dev nD => toks c := by
  unfold cellToks toks
  simp only [bigSep_five, bigSep_sep']
  rw [pairs_swap fun c d => dutyTok ER (cell 0 c) 0 d, pairs_swap fun c d => dutyTok ER (cell 2 c) 0 d,
    pairs_swap fun c d => dutyTok ER (cell 4 c) 0 d]

section Launch
variable (P : Dev nD → Buf512 F)

/-- What device `c` is given at first, -/
def G (c : Dev nD) : sProp 𝕄 :=
  iprop((bigSep Finset.univ fun k : Fin 5 => roundState ER (sched P) (cellAt (c, k)) 0)
    ∗ ((bigSep Finset.univ fun k : Fin 5 => atPos ER (cellAt (c, k)) 0 ∅ 0) ∗ bigSep Finset.univ fun k : Fin 5 => reached ER (cellAt (c, k)) 0) ∗ cellToks c)

/-- and what it starts with. -/
def G' (c : Dev nD) : sProp 𝕄 := iprop(∃ K, records P K ∗ ats c ∗ toks c)

theorem fund_cells : BI.own (ER (initOf allCells allToks)) ⊢ (|==> bigSep Finset.univ (G P) : sProp 𝕄) := by
  have hX (Φ : GSem nD τ sig → sProp 𝕄) : bigSep allCells Φ = bigSep Finset.univ fun c : Dev nD => bigSep Finset.univ fun k : Fin 5 => Φ (cellAt (c, k)) := by
    unfold allCells; rw [bigSep_map, bigSep_univ_prod]; rfl
  have hT : bigSep allToks (fun x => (dutyTok ER x.1 x.2.1 x.2.2 : sProp 𝕄)) = bigSep Finset.univ fun c : Dev nD => cellToks c := by
    unfold allToks cellToks; rw [bigSep_map, Pipeline.bigSep_sigma, bigSep_univ_prod]; rfl
  iintro HX
  imod (Rounds.fund ER (sched P) allCells allToks) $$ HX with ⟨Hst, Hr, Hat, Htok⟩
  imodintro
  ihave Hst' := (Entails.of_eq (hX fun g => roundState ER (sched P) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

theorem ownSems0_eq (c : Dev nD) : (Pipeline.ownSems0 (Ix := Unit) (Name := ℕ) (U := UU) (Lvl := ℕ) (Val := Elt F) (τ := τ) osem c : sProp 𝕄)
    = iprop(semVal (cell 1 c) 0 ∗ semVal (cell 2 c) 0 ∗ semVal (cell 3 c) 0 ∗ semVal (cell 4 c) 0) := by
  rw [Pipeline.ownSems0_eq_of_list c osem [0, 1, 2, 3] (by decide) (by decide)]; rfl

theorem unscopedSems0_eq (c : Dev nD) : (unscopedSems0 c : sProp 𝕄) = semVal (cell 0 c) 0 := by
  unfold unscopedSems0; rw [bigSep_eq_bigSepL_of_eq [SemLoc.reg barS] (by decide) (by decide)]; rfl

theorem sems0_eq (c : Dev nD) :
    iprop(Pipeline.ownSems0 (Ix := Unit) (Name := ℕ) (U := UU) (Lvl := ℕ) (Val := Elt F) (τ := τ) osem c ∗ unscopedSems0 c)
      ⊢ (bigSep Finset.univ fun k : Fin 5 => semVal (cellAt (c, k)) 0 : sProp 𝕄) := by
  rw [ownSems0_eq, unscopedSems0_eq, bigSep_five]
  iintro ⟨H, HB⟩
  isplitl [HB]; · iexact HB
  iexact H

/-- The cells of one device become invariants. -/
theorem core_alloc (c : Dev nD) :
    iprop(Pipeline.ownSems0 (Ix := Unit) (Name := ℕ) (U := UU) (Lvl := ℕ) (Val := Elt F) (τ := τ) osem c ∗ unscopedSems0 c ∗ G P c)
      ⊢ |={Set.univ}=> iprop((bigSep Finset.univ fun k => iprop(∃ κ : ℕ, cellInv ER (sched P) κ (cellAt (c, k))))
          ∗ ((bigSep Finset.univ fun k : Fin 5 => atPos ER (cellAt (c, k)) 0 ∅ 0) ∗ bigSep Finset.univ fun k : Fin 5 => reached ER (cellAt (c, k)) 0) ∗ cellToks c) := by
  have h : iprop((bigSep Finset.univ fun k : Fin 5 => semVal (cellAt (c, k)) 0) ∗ bigSep Finset.univ fun k : Fin 5 => roundState ER (sched P) (cellAt (c, k)) 0)
      ⊢ (|={Set.univ}=> bigSep Finset.univ fun k => iprop(∃ κ : ℕ, cellInv ER (sched P) κ (cellAt (c, k))) : sProp 𝕄) := by
    rw [← bigSep_sep']
    exact (bigSep_mono fun k _ => (Rounds.body_intro ER (sched P) (cellAt (c, k))).trans inv_alloc).trans (bigSep_fupd _ _)
  unfold G
  iintro ⟨Hos, Hus, Hst, Hat, Htok⟩
  ihave Hv := (sems0_eq (F := F) c) $$ [Hos Hus]
  · isplitl [Hos] <;> iassumption
  imod h $$ [Hv Hst] with Hinv
  · isplitl [Hv] <;> iassumption
  imodintro
  isplitl [Hinv]; · iexact Hinv
  isplitl [Hat]; · iexact Hat
  iexact Htok

/-- What is known to all goes to each. -/
theorem with_all {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem ats_eq (c : Dev nD) : (bigSep Finset.univ fun k : Fin 5 => (atPos ER (cellAt (c, k)) 0 ∅ 0 : sProp 𝕄)) = ats c := by
  unfold ats; rw [bigSep_five]

theorem start_one (K : Dev nD × Fin 5 → ℕ) (c : Dev nD) : iprop(records P K ∗ (ats c ∗ toks c)) ⊢ G' P c := by
  unfold G'
  iintro H
  iexists K
  iexact H

/-- The names gathered, the tokens dealt. -/
theorem regroup :
    (bigSep Finset.univ fun c : Dev nD => iprop((bigSep Finset.univ fun k => iprop(∃ κ : ℕ, cellInv ER (sched P) κ (cellAt (c, k))))
          ∗ ((bigSep Finset.univ fun k : Fin 5 => atPos ER (cellAt (c, k)) 0 ∅ 0) ∗ bigSep Finset.univ fun k : Fin 5 => reached ER (cellAt (c, k)) 0) ∗ cellToks c) : sProp 𝕄)
      ⊢ bigSep Finset.univ (G' P) := by
  simp only [ats_eq]
  rw [bigSep_sep', bigSep_sep', bigSep_sep', ← bigSep_univ_prod (fun ck : Dev nD × Fin 5 => iprop(∃ κ : ℕ, cellInv ER (sched P) κ (cellAt ck))),
    ← bigSep_univ_prod (fun ck : Dev nD × Fin 5 => (reached ER (cellAt ck) 0 : sProp 𝕄)), toks_deal]
  iintro ⟨HI, ⟨Hat, #HR⟩, Htok⟩
  ihave HK := (BI.bigSep_exists_pi Finset.univ (fun (ck : Dev nD × Fin 5) (κ : ℕ) => (cellInv ER (sched P) κ (cellAt ck) : sProp 𝕄))) $$ HI
  icases HK with ⟨%K, #HI⟩
  iapply (with_all (R := records P K) fun c _ => start_one P K c)
  isplitr
  · unfold records; isplitl; · iexact HI
    iexact HR
  · iapply (Entails.of_eq (bigSep_sep' Finset.univ (fun c : Dev nD => (ats (F := F) c)) toks).symm)
    isplitl [Hat]; · iexact Hat
    iexact Htok

/-- The launch's step over all devices. -/
theorem glob : (bigSep Finset.univ fun c => iprop(Pipeline.ownSems0 (Ix := Unit) (Name := ℕ) (U := UU) (Lvl := ℕ) (Val := Elt F) (τ := τ) osem c ∗ unscopedSems0 c ∗ G P c) : sProp 𝕄)
    ⊢ |={Set.univ}=> bigSep Finset.univ (G' P) :=
  ((bigSep_mono fun c _ => core_alloc P c).trans (bigSep_fupd _ _)).trans (BI.fupd_mono (regroup P))

end Launch

/-! ## What each device may wait for -/

/-- What the devices together owe semaphore `k` of device `c`. -/
theorem owed_sum (k : Fin 5) (hk : k = 0 ∨ k = 2 ∨ k = 4) (c : Dev nD) : ∑ d : Dev nD, O₀ d (cell k c) () = 31 * amt k := by
  have h : ∀ d : Dev nD, O₀ d (cell k c) () = if d ∈ others c then amt k else 0 := by
    intro d
    have hm : Iff (c ∈ others d) (d ∈ others c) := by simp only [Finset.mem_erase, Finset.mem_univ, and_true, ne_comm]
    unfold O₀
    rw [Pi.add_apply, Finsupp.add_apply, Pi.add_apply, Finsupp.add_apply, dues_cell, dues_cell, dues_cell]
    simp only [hm]
    rcases hk with rfl | rfl | rfl <;> by_cases hd : d ∈ others c <;> simp [hd]
  rw [Finset.sum_congr rfl fun d _ => h d, Finset.sum_ite_mem, Finset.univ_inter, Finset.sum_const, card_others, smul_eq_mul]

theorem launch_cell (k : Fin 5) (hk : k = 0 ∨ k = 2 ∨ k = 4) (c : Dev nD) :
    tallyOn (cell k c) (launchCredit (Pipeline.owing O₀) 0 (cell k c)) = (tallyAt (cell k c) () (31 * amt k) : CellTallies nD τ sig Unit) := by
  unfold tallyAt; refine congrArg _ (Finsupp.ext fun u => ?_); cases u
  rw [Pipeline.launchCredit_owing, Finsupp.single_eq_same, owed_sum k hk c]

theorem creds_intro (c : Dev nD) : (Pipeline.launchCred O₀ c : sProp 𝕄) ⊢ creds c := by
  have h (k : Fin 5) (hk : k = 0 ∨ k = 2 ∨ k = 4) :
      (cred (tallyOn ((c.tc : Thread nD τ), ksem k) (launchCredit (Pipeline.owing O₀) 0 ((c.tc : Thread nD τ), ksem k))) : sProp 𝕄)
        = cred (tallyAt (cell k c) () (31 * amt k)) := congrArg cred (launch_cell k hk c)
  let S : Finset (SemLoc sig) := {ksem 0, ksem 2, ksem 4}
  have hS : S = insert (ksem 0) (insert (ksem 2) {ksem 4}) := rfl
  have hs : (Pipeline.launchCred O₀ c : sProp 𝕄) ⊢ bigSep S fun sm : SemLoc sig =>
      cred (tallyOn ((c.tc : Thread nD τ), sm) (launchCredit (Pipeline.owing O₀) 0 ((c.tc : Thread nD τ), sm))) :=
    bigSep_subset (Finset.subset_univ S)
  refine hs.trans (Entails.of_eq ?_)
  rw [hS, bigSep_insert (by decide), bigSep_insert (by decide), bigSep_singleton]
  rw [h 0 (.inl rfl), h 2 (.inr (.inl rfl)), h 4 (.inr (.inr rfl))]
  rfl

end Cert.FusedMlp

end
-- ==== Proof.Run.lean ====
/-
# The run of all devices

From any memory with its semaphores at zero the kernel ends on every device, with the argument arrays unchanged, the result
array holding the sum of all partial products, and every semaphore at zero again.
-/
module

public import proofs.«01_k».proof.Proof.Deal
public import proofs.«01_k».proof.Proof.Gen.KernelIdeal.Frame
public import Idealize.ShloMosaic.Lib.Pipeline.CollectiveSegs

@[expose] public section

noncomputable section

namespace Cert.FusedMlp

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)

variable {F : FTy → Type} [FloatOps F]

local notation "𝕄" => MT nD τ sig Unit (Elt F) ℕ UU ℕ

variable (m : (ℓ : Loc nD τ sig) → Buf (Elt F) ℓ) (ρ : Dev nD → PrngReg)

/-! ## The contents -/

/-- The inputs of device `c` as its body finds them. -/
def xIn (c : Dev nD) : Vec F S512x512 .bf16 := iblk m c 0 t0_0
def gIn (c : Dev nD) : Vec F S512x1024 .bf16 := iblk m c 1 t0_0
def uIn (c : Dev nD) : Vec F S512x1024 .bf16 := iblk m c 2 t0_0
def dIn (c : Dev nD) : Vec F S1024x512 .bf16 := iblk m c 3 t0_0

/-- The partial product of each device, -/
def prods (c : Dev nD) : Buf512 F := partial' (xIn m c) (gIn m c) (uIn m c) (dIn m c)

/-- and the result, the same on each. -/
def result : Vec F S512x512 .f32 := k0_pay42 (gathered (prods m))

/-! ## The launch's data -/

def start (c : Dev nD) : sProp 𝕄 := iprop(G' (prods m) c ∗ creds c ∗ levAts L lv)

def dats (_ : Fin 1) (c : Dev nD) : Dat τ (Elt F) Unit ℕ UU ℕ cfg0 c where
  A w := V m c (Pipeline.arrRef spec0 w)
  after w _ := match w with
    | ⟨0, _⟩ => xIn m c
    | ⟨1, _⟩ => gIn m c
    | ⟨2, _⟩ => uIn m c
    | ⟨3, _⟩ => dIn m c
    | ⟨4, _⟩ => result m
  Φ t := match t with
    | ⟨0, _⟩ => iprop(start m c ∗ scratch c)
    | ⟨_ + 1, _⟩ => iprop(zeros c ∗ scratch c)
  q _ := fullShare
  owed t := match t with
    | ⟨0, _⟩ => O₀ c
    | ⟨_ + 1, _⟩ => 0

theorem owns_whole (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

/-! ## The body -/

abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

def bodyPre (c : Dev nD) : sProp 𝕄 :=
  iprop((start m c ∗ scratch c) ∗ (dats m 0 c).owesAt () t0_0.castSucc
    ∗ (∃ d, stg c cc0_stg0_0 ((dats m 0 c).before (0 : Fin 5) t0_0 d))
    ∗ (∃ d, stg c cc0_stg1_0 ((dats m 0 c).before (1 : Fin 5) t0_0 d))
    ∗ (∃ d, stg c cc0_stg2_0 ((dats m 0 c).before (2 : Fin 5) t0_0 d))
    ∗ (∃ d, stg c cc0_stg3_0 ((dats m 0 c).before (3 : Fin 5) t0_0 d))
    ∗ (∃ d, stg c cc0_stg4_0 ((dats m 0 c).before (4 : Fin 5) t0_0 d)))

def bodyPost (c : Dev nD) : sProp 𝕄 :=
  iprop((zeros c ∗ scratch c) ∗ (dats m 0 c).owesAt () t0_0.succ
    ∗ stg c cc0_stg0_0 (xIn m c) ∗ stg c cc0_stg1_0 (gIn m c) ∗ stg c cc0_stg2_0 (uIn m c) ∗ stg c cc0_stg3_0 (dIn m c)
    ∗ stg c cc0_stg4_0 (result m))

theorem owing_of_owesAt (c : Dev nD) : ((dats m 0 c).owesAt () t0_0.castSucc : sProp 𝕄) ⊢ owing c (O₀ c) := by
  unfold Dat.owesAt Pipeline.owesWithin owing
  iintro ⟨%W, -, H⟩
  iexists W
  iexact H

theorem owesAt_of_owing (c : Dev nD) : owing c 0 ⊢ ((dats m 0 c).owesAt () t0_0.succ : sProp 𝕄) := by
  unfold Dat.owesAt Pipeline.owesWithin owing
  iintro ⟨%W, H⟩
  iexists W
  isplitr; · ipureintro; exact fun _ _ => Or.inl trivial
  iexact H

/-- A staging buffer holding `X`. -/
theorem stg_intro (c : Dev nD) (b : Ref sig .tc) (X : b.ty.Contents (Elt F)) :
    ((((c : Thread nD τ).loc b) ↦{fullShare} X : sProp 𝕄)) ⊢ stg c b X := by
  iintro H
  iexists X
  isplitr; · ipureintro; rfl
  iexact H

theorem stg_elim (c : Dev nD) (b : Ref sig .tc) {ι : Type} (Y : ι → b.ty.Contents (Elt F)) (X : b.ty.Contents (Elt F)) (h : ∀ i, Y i = X) :
    (iprop(∃ i, stg c b (Y i)) : sProp 𝕄) ⊢ (((c : Thread nD τ).loc b) ↦{fullShare} X) := by
  iintro ⟨%i, %f, %hf, H⟩
  rw [show f = X from hf.trans (h i)]
  iexact H

theorem sound_body (c : Dev nD) :
    bodyPre m c ⊢ WP c (bodyAt0 t0_0) (fun _ => bodyPost m c) := by
  unfold bodyPre bodyPost start G'
  iintro ⟨⟨⟨⟨%K, Hrec, Hat, Htok⟩, Hcr, Hlev⟩, Hscr⟩, Ho, Hx, Hg, Hu, Hd, %d4, %f4, -, Hout⟩
  ihave Ho' := (owing_of_owesAt m c) $$ Ho
  ihave Hx' := (stg_elim c cc0_stg0_0 _ (xIn m c) fun d => by unfold Dat.before; rw [if_pos (fetch0_0 t0_0)]; rfl) $$ Hx
  ihave Hg' := (stg_elim c cc0_stg1_0 _ (gIn m c) fun d => by unfold Dat.before; rw [if_pos (fetch0_1 t0_0)]; rfl) $$ Hg
  ihave Hu' := (stg_elim c cc0_stg2_0 _ (uIn m c) fun d => by unfold Dat.before; rw [if_pos (fetch0_2 t0_0)]; rfl) $$ Hu
  ihave Hd' := (stg_elim c cc0_stg3_0 _ (dIn m c) fun d => by unfold Dat.before; rw [if_pos (fetch0_3 t0_0)]; rfl) $$ Hd
  iapply (wp_body (prods m) K c (x := xIn m c) (g := gIn m c) (u := uIn m c) (d := dIn m c) rfl) $$ [Hrec Hat Htok Hcr Hlev Hscr Ho' Hx' Hg' Hu' Hd' Hout]
  · isplitl [Hrec]; · iexact Hrec
    isplitl [Hlev]; · iexact Hlev
    isplitl [Ho']; · iexact Ho'
    isplitl [Hat]; · iexact Hat
    isplitl [Hcr]; · iexact Hcr
    isplitl [Htok]; · iexact Htok
    isplitl [Hscr]; · iexact Hscr
    isplitl [Hx' Hg' Hu' Hd']
    · unfold ins
      isplitl [Hx']; · iexact Hx'
      isplitl [Hg']; · iexact Hg'
      isplitl [Hu']; · iexact Hu'
      iexact Hd'
    iexists f4
    unfold oAt
    iexact Hout
  unfold ins oAt
  iintro ⟨Ho, Hz, Hscr, ⟨Hx, Hg, Hu, Hd⟩, Hout⟩
  isplitl [Hz Hscr]
  · isplitl [Hz] <;> iassumption
  isplitl [Ho]; · iapply (owesAt_of_owing m c); iexact Ho
  isplitl [Hx]; · iapply (stg_intro c cc0_stg0_0); iexact Hx
  isplitl [Hg]; · iapply (stg_intro c cc0_stg1_0); iexact Hg
  isplitl [Hu]; · iapply (stg_intro c cc0_stg2_0); iexact Hu
  isplitl [Hd]; · iapply (stg_intro c cc0_stg3_0); iexact Hd
  iapply (stg_intro c cc0_stg4_0)
  iexact Hout

set_option maxRecDepth 4000 in
theorem body_obligation (c : Dev nD) : BodyObligation (dats (F := F) m 0 c) (defs₀ (F := F)) 𝒱₀ () Set.univ := fun t => by
  rw [fin_N0 t]
  rw [bigSep_W0, bigSep_W0]
  simp only [owns_whole]
  exact sound_body m c

/-! ## The launch -/

theorem share_eq (c : Dev nD) (w : Fin cfg0.W) : (dats m 0 c).share w = fullShare := by unfold Dat.share; split <;> rfl

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' (prods m) c)
      ⊢ |={Set.univ}=> iprop(start m c ∗ emp) := by
  iintro ⟨-, Hlev, Hcr, -, HG⟩
  ihave Hc := (creds_intro (F := F) c) $$ Hcr
  imodintro
  unfold start
  isplitl
  · isplitl [HG]; · iexact HG
    isplitl [Hc]; · iexact Hc
    iexact Hlev
  · iempintro

theorem scratch_eq (c : Dev nD) :
    (Pipeline.scopedRest (Ix := Unit) (Name := ℕ) (U := UU) (Lvl := ℕ) (Val := Elt F) cfg0.spec c : sProp 𝕄) = scratch c := by
  rw [scopedRest0_eq]; rfl

theorem phi_first (c : Dev nD) :
    iprop(start m c ∗ Pipeline.prefHeld Pipeline.Prefetch.none c (fun _ => fullShare.right) (fun k => k.elim0) ∗ Pipeline.scopedRest cfg0.spec c)
      ⊢ (dats m 0 c).Φ 0 := by
  rw [show (dats m 0 c).Φ 0 = iprop(start m c ∗ scratch c) from rfl, scratch_eq]
  iintro ⟨Hs, -, Hr⟩
  isplitl [Hs]; · iexact Hs
  iexact Hr

theorem phi_last (c : Dev nD) :
    (dats m 0 c).Φ (Fin.last cfg0.N) ⊢ iprop(unscopedSems0 c ∗ Pipeline.ownSems0 osem c ∗ Pipeline.scopedRest cfg0.spec c) := by
  rw [show (dats m 0 c).Φ (Fin.last cfg0.N) = iprop(zeros c ∗ scratch c) from rfl, scratch_eq, ownSems0_eq, unscopedSems0_eq]
  unfold zeros
  iintro ⟨⟨H0, H⟩, Hr⟩
  isplitl [H0]; · iexact H0
  isplitl [H]; · iexact H
  iexact Hr

theorem waits (c : Dev nD) : (levAts L lv : sProp 𝕄) ⊢ Pipeline.cellsWaits cfgs (dats m) () 0 c :=
  Pipeline.cellsWaits_intro cfgs (dats m) () 0 c fun w s t =>
    mayWait_stage c _ (by fin_cases w <;> fin_cases s <;> decide) _ (by
      rcases t with ⟨_ | _, ht⟩
      · exact Or.inl rfl
      · exact Or.inr rfl)

def s₀ : MemSt nD τ sig (Elt F) := ⟨m, fun _ => 0, ρ⟩

def finalA (c : Dev nD) (w : Fin cfg0.W) : Buf (Elt F) ((cfg0.win w).arr.view.loc (c : Thread nD τ)) := (dats m 0 c).arrAt w cfg0.N

set_option maxRecDepth 8000 in
/-- Every run ends, with the five arrays of each device at their final contents and all semaphores at zero. -/
theorem run_arrays : θ_run defs (onTc (τ := τ) (main (F := F))) (s₀ m ρ) (fun r =>
    (∀ c : Dev nD, ∀ w : Fin cfg0.W, r.2.mem ((cfg0.win w).arr.view.loc (c : Thread nD τ)) = finalA m c w) ∧ r.2.sem = fun _ => 0) :=
  Pipeline.θ_run_region_owing_glob_pf (fun p => (cfgs p).toPCfg) (fun p => (cfgs p).toPCfg_adm) (dats m) () cellOf_inj (0 : Fin 1)
    winFacts0.to₀ ownSemFacts (Pipeline.PreFacts.none _) EP defs₀ 𝒱₀ m ρ main
    (hmain := fun c => (main_chain c).trans rfl)
    (hbody := body_obligation m) (hne := fun w => by fin_cases w <;> exact Nat.succ_pos _) (harr := arr_whole0) (hstage := stage_whole0) (hshare := share_eq m)
    (hdistinct := winFacts0.arr_inj)
    (O₀ := O₀) (howed₀ := fun _ => rfl) (howedN := fun _ => rfl)
    (L := L) (lv := lv) (hL := L_of_ne) (hwaits := waits m)
    (G := G (prods m)) (G' := G' (prods m)) (u₀ := u₀)
    (hu₀ := by
      unfold u₀
      iintro Hu
      ihave H := (ownU_pair _ _) $$ Hu
      icases H with ⟨HP, HX⟩
      imod (fund_cells (prods m)) $$ HX with HG
      imodintro
      isplitl [HP] <;> iassumption)
    (hglob := glob (prods m))
    (hA := fun _ _ => rfl) (hpf := fun _ k => k.elim0)
    (X := start m) (Y := fun c => unscopedSems0 c) (Z := fun _ => iprop(emp))
    (hX := start_intro m ρ) (hin := phi_first m) (hout := phi_last m)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

end Cert.FusedMlp

end
-- ==== Proof.Final.lean ====
/-
# The arrays after the run

The result array of every device holds the gathered sums, and each argument array what it held at the start.
-/
module

public import proofs.«01_k».proof.Proof.Run

@[expose] public section

noncomputable section

namespace Cert.FusedMlp

open Cert.KernelIdeal Cert.KernelIdeal.Gen
open Idealize.ShloMosaic
open Idealize.ShloMosaic.TcCoe
open Idealize.SL Idealize.SL.Sem
open Idealize.ShloMosaic.Pipeline (Dat)

variable {F : FTy → Type} [FloatOps F]
variable (m : (ℓ : Loc nD τ sig) → Buf (Elt F) ℓ) (ρ : Dev nD → PrngReg)

/-! ## The one block of each array is the whole array -/

theorem read_x (f : main_arg0.ty.Contents (Elt F)) : (win0_0.blk t0_0).view.read (Elt F) f = f :=
  Memref.read_access_unit_zero (Elt F) main_arg0
    (show (fun a => (win0_0.index t0_0) a * main_arg0.ty.shape.size a) = fun _ => 0 from funext fun a => by fin_cases a <;> decide)
    (fun a => by fin_cases a <;> decide) f

theorem read_g (f : main_arg1.ty.Contents (Elt F)) : (win0_1.blk t0_0).view.read (Elt F) f = f :=
  Memref.read_access_unit_zero (Elt F) main_arg1
    (show (fun a => (win0_1.index t0_0) a * main_arg1.ty.shape.size a) = fun _ => 0 from funext fun a => by fin_cases a <;> decide)
    (fun a => by fin_cases a <;> decide) f

theorem read_u (f : main_arg2.ty.Contents (Elt F)) : (win0_2.blk t0_0).view.read (Elt F) f = f :=
  Memref.read_access_unit_zero (Elt F) main_arg2
    (show (fun a => (win0_2.index t0_0) a * main_arg2.ty.shape.size a) = fun _ => 0 from funext fun a => by fin_cases a <;> decide)
    (fun a => by fin_cases a <;> decide) f

theorem read_d (f : main_arg3.ty.Contents (Elt F)) : (win0_3.blk t0_0).view.read (Elt F) f = f :=
  Memref.read_access_unit_zero (Elt F) main_arg3
    (show (fun a => (win0_3.index t0_0) a * main_arg3.ty.shape.size a) = fun _ => 0 from funext fun a => by fin_cases a <;> decide)
    (fun a => by fin_cases a <;> decide) f

theorem read_out (f : main_v1.ty.Contents (Elt F)) : (win0_4.blk t0_0).view.read (Elt F) f = f :=
  Memref.read_access_unit_zero (Elt F) main_v1
    (show (fun a => (win0_4.index t0_0) a * main_v1.ty.shape.size a) = fun _ => 0 from funext fun a => by fin_cases a <;> decide)
    (fun a => by fin_cases a <;> decide) f

theorem xIn_eq (c : Dev nD) : xIn m c = m ((c : Thread nD τ).loc main_arg0) := read_x (F := F) (m ((c : Thread nD τ).loc main_arg0))
theorem gIn_eq (c : Dev nD) : gIn m c = m ((c : Thread nD τ).loc main_arg1) := read_g (F := F) (m ((c : Thread nD τ).loc main_arg1))
theorem uIn_eq (c : Dev nD) : uIn m c = m ((c : Thread nD τ).loc main_arg2) := read_u (F := F) (m ((c : Thread nD τ).loc main_arg2))
theorem dIn_eq (c : Dev nD) : dIn m c = m ((c : Thread nD τ).loc main_arg3) := read_d (F := F) (m ((c : Thread nD τ).loc main_arg3))

/-! ## The final contents -/

theorem finalA_out (c : Dev nD) : finalA m c (4 : Fin 5) = result m := by
  refine (read_out (F := F) (finalA m c (4 : Fin 5))).symm.trans ?_
  unfold finalA
  rw [show cfg0.N = t0_0.val + 1 from rfl, (dats m 0 c).arrAt_succ (4 : Fin 5) t0_0, flush0_4, if_pos rfl]
  exact View.read_write_univ _ _

/-- **The kernel's run**: the result of every device, its arguments, and all semaphores at zero. -/
theorem run_main : θ_run defs (onTc (τ := τ) (main (F := F))) ⟨m, fun _ => 0, ρ⟩ (fun r =>
    (∀ c : Dev nD, r.2.mem ((c.tc : Thread nD τ).loc main_v1) = result m
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
    ∧ r.2.sem = fun _ => 0) :=
  (θ_run defs _ _).mono (fun r h => ⟨fun c =>
    ⟨(h.1 c (4 : Fin 5)).trans (finalA_out m c),
     (h.1 c (0 : Fin 5)).trans ((dats m 0 c).arrAt_in (0 : Fin 5) rfl _),
     (h.1 c (1 : Fin 5)).trans ((dats m 0 c).arrAt_in (1 : Fin 5) rfl _),
     (h.1 c (2 : Fin 5)).trans ((dats m 0 c).arrAt_in (2 : Fin 5) rfl _),
     (h.1 c (3 : Fin 5)).trans ((dats m 0 c).arrAt_in (3 : Fin 5) rfl _)⟩, h.2⟩)
    (run_arrays m ρ)

end Cert.FusedMlp

end
-- ==== Proof.BlockValue.lean ====
/-
# The partial product of a device over the extended reals

Each 128-row block a device computes is the gated product of those rows of `x` with the device's blocks of the weights, so
the whole partial product is the gated product.
-/
module

public import proofs.«01_k».proof.Proof.Gated
public import proofs.«01_k».proof.Proof.Final
public import Idealize.ShloMosaic.Lib.ValueLayout
public import Idealize.ShloMosaic.Lib.MatmulPlain

@[expose] public section

noncomputable section

namespace Cert.FusedMlp

open Cert.KernelIdeal Cert.KernelIdeal.Gen
open Idealize.ShloMosaic hiding ix2
open Idealize.ShloMosaic.ValueIdx
open scoped BigOperators

/-- The 128 rows of the partial product from row `o` on, as each block's arithmetic writes them. -/
def rowBlock {o : ℕ} (hs : S512x512.Slices ![o, 0] S128x512) (x : FVec Ideal S512x512 .bf16) (g u : FVec Ideal S512x1024 .bf16)
    (d : FVec Ideal S1024x512 .bf16) : FVec Ideal S128x512 .bf16 :=
  let xs : FVec Ideal S128x512 .bf16 := extractStridedSlice S128x512 ![o, 0] x hs
  let up : FVec Ideal S128x1024 .f32 := matmul dot_S128x512_S512x1024_S128x1024_1_0_0_1_n_n none xs u (constant S128x1024 .f32 0x00000000#32)
  let ga : FVec Ideal S128x1024 .f32 := matmul dot_S128x512_S512x1024_S128x1024_1_0_0_1_n_n none xs g (constant S128x1024 .f32 0x00000000#32)
  truncf .bf16 (matmul dot_S128x1024_S1024x512_S128x512_1_0_0_1_n_n none (truncf .bf16 (mulf ga (mulf up (logistic up))) bitsLt_bf16_f32) d
    (constant S128x512 .f32 0x00000000#32)) bitsLt_bf16_f32

section
variable (x : FVec Ideal S512x512 .bf16) (g u : FVec Ideal S512x1024 .bf16) (d : FVec Ideal S1024x512 .bf16)

theorem part0_eq : part0 (F := Ideal) x g u d = rowBlock slices_S512x512_o0_0_S128x512 x g u d := by
  unfold part0 k0_pay5 k0_pay1 k0_pay2 k0_pay3 k0_pay4
  simp only [shapeCast_self]
  rfl

theorem part1_eq : part1 (F := Ideal) x g u d = rowBlock slices_S512x512_o128_0_S128x512 x g u d := by
  unfold part1 k0_pay7 k0_pay6 k0_pay1 k0_pay2 k0_pay3 k0_pay4
  simp only [shapeCast_self]
  rfl

theorem part2_eq : part2 (F := Ideal) x g u d = rowBlock slices_S512x512_o256_0_S128x512 x g u d := by
  unfold part2 k0_pay8 k0_pay1 k0_pay2 k0_pay3 k0_pay4
  simp only [shapeCast_self]
  rfl

theorem part3_eq : part3 (F := Ideal) x g u d = rowBlock slices_S512x512_o384_0_S128x512 x g u d := by
  unfold part3 k0_pay9 k0_pay1 k0_pay2 k0_pay3 k0_pay4
  simp only [shapeCast_self]
  rfl

/-- A product into zeros, at an index. -/
theorem product_apply {M K N : ℕ} {φ₁ φ₂ : FTy} (lhs : FVec Ideal ⟨2, ![M, K]⟩ φ₁) (rhs : FVec Ideal ⟨2, ![K, N]⟩ φ₂) (r : Fin M) (c : Fin N) :
    FloatOps.matmul (DotDims.plain M K N) none lhs rhs (constant ⟨2, ![M, N]⟩ .f32 0x00000000#32) (ix2 r c)
      = ∑ k : Fin K, lhs (ix2 r k) * rhs (ix2 k c) := by
  rw [Ideal.matmul_plain_apply]
  show Ideal.ofBits .f32 0x00000000#32 + _ = _
  rw [Ideal.ofBits_zero_f32, zero_add]

theorem proj_rows {o : ℕ} (hs : S512x512.Slices ![o, 0] S128x512) (w : FVec Ideal S512x1024 .bf16) (r : Fin 128) (R : Fin 512)
    (hR : R.val = o + r.val) (k : Fin 1024) :
    matmul dot_S128x512_S512x1024_S128x1024_1_0_0_1_n_n none (extractStridedSlice S128x512 ![o, 0] x hs) w (constant S128x1024 .f32 0x00000000#32) (ix2 r k)
      = proj x w R k := by
  refine (product_apply (M := 128) (K := 512) (N := 1024) (φ₁ := .bf16) (φ₂ := .bf16) (extractStridedSlice S128x512 ![o, 0] x hs) w r k).trans ?_
  refine Finset.sum_congr rfl fun e _ => ?_
  rw [slice2_axis0_apply o x hs r e R hR]

/-- Row `o + r` of the partial product. -/
theorem rowBlock_apply {o : ℕ} (hs : S512x512.Slices ![o, 0] S128x512) (r : Fin 128) (R : Fin 512) (hR : R.val = o + r.val) (n : Fin 512) :
    rowBlock hs x g u d (ix2 r n) = gated x g u d R n := by
  refine (product_apply (M := 128) (K := 1024) (N := 512) (φ₁ := .bf16) (φ₂ := .bf16) _ d r n).trans ?_
  refine Finset.sum_congr rfl fun k _ => congrArg (· * d (ix2 k n)) ?_
  rw [← proj_rows x hs g r R hR k, ← proj_rows x hs u r R hR k]
  rfl

/-- **The partial product is the gated product.** -/
theorem partial_apply (r n : Fin 512) : partial' (F := Ideal) x g u d (ix2 r n) = gated x g u d r n := by
  have hr := r.isLt
  show parts (F := Ideal) x g u d (blkOf (ix2 r n)) (inBlk (ix2 r n)) = _
  have hi : inBlk (ix2 r n) = ix2 (⟨r.val % 128, Nat.mod_lt _ (by decide)⟩ : Fin 128) n := by
    funext a
    match a with
    | ⟨0, _⟩ => rfl
    | ⟨1, _⟩ => rfl
  rw [hi]
  rcases (by omega : r.val / 128 = 0 ∨ r.val / 128 = 1 ∨ r.val / 128 = 2 ∨ r.val / 128 = 3) with h | h | h | h
  · rw [show blkOf (ix2 r n) = 0 from Fin.ext h]
    show part0 (F := Ideal) x g u d _ = _
    rw [part0_eq]
    exact rowBlock_apply x g u d _ _ r (by show r.val = 0 + r.val % 128; omega) n
  · rw [show blkOf (ix2 r n) = 1 from Fin.ext h]
    show part1 (F := Ideal) x g u d _ = _
    rw [part1_eq]
    exact rowBlock_apply x g u d _ _ r (by show r.val = 128 + r.val % 128; omega) n
  · rw [show blkOf (ix2 r n) = 2 from Fin.ext h]
    show part2 (F := Ideal) x g u d _ = _
    rw [part2_eq]
    exact rowBlock_apply x g u d _ _ r (by show r.val = 256 + r.val % 128; omega) n
  · rw [show blkOf (ix2 r n) = 3 from Fin.ext h]
    show part3 (F := Ideal) x g u d _ = _
    rw [part3_eq]
    exact rowBlock_apply x g u d _ _ r (by show r.val = 384 + r.val % 128; omega) n

end

end Cert.FusedMlp

end
-- ==== Proof.SumValue.lean ====
/-
# The result of a device over the extended reals

Adding the 32 pieces in a tree gives their sum, so the result is the sum over all devices of their partial products.
-/
module

public import proofs.«01_k».proof.Proof.BlockValue

@[expose] public section

noncomputable section

namespace Cert.FusedMlp

open Cert.KernelIdeal Cert.KernelIdeal.Gen
open Idealize.ShloMosaic hiding ix2
open Idealize.ShloMosaic.ValueIdx
open Idealize.ShloMosaic.TcCoe
open scoped BigOperators

/-- Sums of neighbours. -/
def pairUp {n : ℕ} (f : Fin (2 * n) → EReal) (i : Fin n) : EReal := f ⟨2 * i.val, by omega⟩ + f ⟨2 * i.val + 1, by omega⟩

theorem sum_pairUp {n : ℕ} (f : Fin (2 * n) → EReal) : ∑ i, f i = ∑ i, pairUp f i := by
  rw [Fin.sum_univ_tiles n 2 (Nat.mul_comm n 2)]
  refine Finset.sum_congr rfl fun i _ => ?_
  rw [Fin.sum_univ_two]
  unfold pairUp
  exact congrArg₂ (· + ·) (congrArg f (Fin.ext (show i.val * 2 + 0 = 2 * i.val by omega)))
    (congrArg f (Fin.ext (show i.val * 2 + 1 = 2 * i.val + 1 by omega)))

theorem sum32_apply (w : Fin 32 → Vec Ideal S16x512 .bf16) (i : S16x512.Idx) : sum32 (F := Ideal) w i = ∑ t : Fin 32, (w t i : EReal) := by
  have h : sum32 (F := Ideal) w i
      = pairUp (n := 1) (pairUp (n := 2) (pairUp (n := 4) (pairUp (n := 8) (pairUp (n := 16) fun t => (w t i : EReal))))) 0 := by
    unfold sum32 k0_pay41
    simp only [shapeCast_self]
    rfl
  rw [h, sum_pairUp (n := 16) fun t => (w t i : EReal), sum_pairUp (n := 8), sum_pairUp (n := 4), sum_pairUp (n := 2), sum_pairUp (n := 1)]
  exact (Fin.sum_univ_one _).symm

/-- **The result**, at row `r`, column `n`: the sum of all devices' gated products. -/
theorem result_apply (m : (ℓ : Loc nD τ sig) → Buf (Elt Ideal) ℓ) (r n : Fin 512) :
    result (F := Ideal) m (ix2 r n)
      = ∑ t : Fin 32, gated (m (((t : Dev nD) : Thread nD τ).loc main_arg0)) (m (((t : Dev nD) : Thread nD τ).loc main_arg1))
          (m (((t : Dev nD) : Thread nD τ).loc main_arg2)) (m (((t : Dev nD) : Thread nD τ).loc main_arg3)) r n := by
  show sum32 (F := Ideal) (pieces (prods m) (slotOf (ix2 r n))) (inSlot (ix2 r n)) = _
  rw [sum32_apply]
  refine Finset.sum_congr rfl fun t _ => ?_
  show prods m t (slotAt (slotOf (ix2 r n)) (inSlot (ix2 r n))) = _
  rw [slotAt_inSlot]
  unfold prods
  rw [xIn_eq, gIn_eq, uIn_eq, dIn_eq]
  exact partial_apply _ _ _ _ r n

end Cert.FusedMlp

end
-- ==== Proof.Reference.lean ====
/-
# The reference over the extended reals

The one-device reference computes the gated product of the whole arrays.
-/
module

public import proofs.«01_k».proof.Proof.Gated
public import proofs.«01_k».proof.Proof.Gen.ReferenceIdeal.Run
public import Idealize.ShloMosaic.Lib.StackMember
public import Idealize.ShloMosaic.Lib.IdealHost

@[expose] public section

noncomputable section

namespace Cert.FusedMlp

open Cert.ReferenceIdeal Cert.ReferenceIdeal.Gen
open Idealize.ShloMosaic hiding ix2
open Idealize.ShloMosaic.ValueIdx
open scoped BigOperators

/-- The reference's product of the gate with the up projection's quotient. -/
def mid (x : FVec Ideal S512x512 .bf16) (g u : FVec Ideal S512x32768 .bf16) : FVec Ideal S512x32768 .bf16 :=
  let ga : FVec Ideal S512x32768 .bf16 := truncf .bf16 (Host.dotGeneral dot_S512x512_S512x32768_S512x32768_1_0_0_1_n_n none x g) bitsLt_bf16_f32
  let up : FVec Ideal S512x32768 .bf16 := truncf .bf16 (Host.dotGeneral dot_S512x512_S512x32768_S512x32768_1_0_0_1_n_n none x u) bitsLt_bf16_f32
  mulf ga (Host.divf up (addf (broadcastInDim S512x32768 ![] bcast_S_S512x32768 (constant S_ .bf16 0x3F80#16)) (Host.exp (Host.negf up))))

/-- The reference's result from its arguments. -/
def whole (x : FVec Ideal S512x512 .bf16) (g u : FVec Ideal S512x32768 .bf16) (d : FVec Ideal S32768x512 .bf16) : FVec Ideal S512x512 .f32 :=
  extf .f32 (truncf .bf16 (Host.dotGeneral dot_S512x32768_S32768x512_S512x512_1_0_0_1_n_n none (mid x g u) d) bitsLt_bf16_f32) bitsLt_bf16_f32

section
variable (x : FVec Ideal S512x512 .bf16) (g u : FVec Ideal S512x32768 .bf16) (d : FVec Ideal S32768x512 .bf16)

theorem proj_apply (w : FVec Ideal S512x32768 .bf16) (r : Fin 512) (k : Fin 32768) :
    Host.dotGeneral dot_S512x512_S512x32768_S512x32768_1_0_0_1_n_n none x w (ix2 r k) = proj x w r k :=
  StackMember.dotGeneral_plain_apply none x w r k

theorem mid_apply (r : Fin 512) (k : Fin 32768) : mid x g u (ix2 r k) = act (proj x g r k) (proj x u r k) := by
  unfold act
  rw [mul_logistic, ← proj_apply x g r k, ← proj_apply x u r k, ← Ideal.ofBits_one_bf16]
  rfl

theorem whole_apply (r n : Fin 512) : whole x g u d (ix2 r n) = gated x g u d r n := by
  have h : whole x g u d (ix2 r n) = ∑ k : Fin 32768, mid x g u (ix2 r k) * d (ix2 k n) :=
    StackMember.dotGeneral_plain_apply none (mid x g u) d r n
  rw [h]
  unfold gated
  exact Finset.sum_congr rfl fun k _ => by rw [mid_apply]

end

end Cert.FusedMlp

end
-- ==== Proof.lean ====
/-
# The certificate

The fused gated product on 32 devices. Every run of the kernel ends, on every device, with the argument arrays unchanged
and every semaphore at zero, both over bit patterns and over the extended reals; so does the one-device reference; and over
the extended reals every device's result is the reference's.
-/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.SumValue
public import proofs.«01_k».proof.Proof.Reference

@[expose] public section

noncomputable section

namespace Cert.Proof

open Idealize.ShloMosaic hiding ix2
open Idealize.ShloMosaic.ValueIdx
open Idealize.SL.Sem
open Cert.FusedMlp

/-! ## The frames -/

/-- The program and its idealization have the same body, -/
theorem bodies_eq : Cert.Kernel.defs₀ (F := Bits) = Cert.KernelIdeal.defs₀ (F := Bits) := by
  refine congrArg Defs.onTc (funext fun l => funext fun a => ?_)
  match l, a with
  | 0, (t, s) => rfl
  | ⟨_ + 1, h⟩, _ => exact absurd h (Nat.not_lt.2 (Nat.le_add_left _ _))

/-- and so the same launch. -/
theorem defs_eq : Cert.Kernel.defs (F := Bits) = Cert.KernelIdeal.defs (F := Bits) :=
  congrArg (Pipeline.defs (Cert.KernelIdeal.pcfgs (F := Bits))) bodies_eq

/-- Over bit patterns: the run at any float values, read there. -/
theorem frame_kernel : Cert.quiescent_Kernel := fun m ρ _ => by
  rw [defs_eq]
  exact (θ_run Cert.KernelIdeal.defs _ _).mono (fun _ h => ⟨fun c => (h.1 c).2, h.2⟩) (run_main (F := Bits) m ρ)

/-- Over the extended reals. -/
theorem frame_kernelIdeal : Cert.quiescent_KernelIdeal := fun m ρ _ =>
  (θ_run Cert.KernelIdeal.defs _ _).mono (fun _ h => ⟨fun c => (h.1 c).2, h.2⟩) (run_main (F := Ideal) m ρ)

/-- The reference has no semaphore. -/
theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-! ## The value -/

/-- Column `k` of device `t`'s block of columns is column `t * 1024 + k` of the whole. -/
theorem cols_apply (v : Mat 512 32768) (t : Fin 32) (k : Fin 1024) (K : Fin 32768) (hK : K.val = t.val * 1024 + k.val) (e : Fin 512) :
    Layout.block ⟨2, ![512, 1024]⟩ ⟨2, ![512, 32768]⟩ 1 32 t v (by decide) (ix2 e k) = v (ix2 e K) := by
  rw [Layout.block_apply]
  refine congrArg v (funext fun a => Fin.ext ?_)
  match a with
  | ⟨0, _⟩ => rfl
  | ⟨1, _⟩ => exact hK.symm

/-- Row `k` of device `t`'s block of rows is row `t * 1024 + k` of the whole. -/
theorem rows_apply (v : Mat 32768 512) (t : Fin 32) (k : Fin 1024) (K : Fin 32768) (hK : K.val = t.val * 1024 + k.val) (n : Fin 512) :
    Layout.block ⟨2, ![1024, 512]⟩ ⟨2, ![32768, 512]⟩ 0 32 t v (by decide) (ix2 k n) = v (ix2 K n) := by
  rw [Layout.block_apply]
  refine congrArg v (funext fun a => Fin.ext ?_)
  match a with
  | ⟨0, _⟩ => exact hK.symm
  | ⟨1, _⟩ => rfl

/-- **The kernel computes the reference.** Both end with the gated product of the whole arrays. -/
theorem algebraic : Cert.algebraic_KernelIdeal_ReferenceIdeal := by
  intro m ρ m' ρ' _ hagree
  have hv : result (F := Ideal) m = whole (m' (((0 : Dev Cert.ReferenceIdeal.nD).tc : Thread _ Cert.ReferenceIdeal.τ).loc Cert.ReferenceIdeal.main_arg0))
      (m' (((0 : Dev Cert.ReferenceIdeal.nD).tc : Thread _ Cert.ReferenceIdeal.τ).loc Cert.ReferenceIdeal.main_arg1))
      (m' (((0 : Dev Cert.ReferenceIdeal.nD).tc : Thread _ Cert.ReferenceIdeal.τ).loc Cert.ReferenceIdeal.main_arg2))
      (m' (((0 : Dev Cert.ReferenceIdeal.nD).tc : Thread _ Cert.ReferenceIdeal.τ).loc Cert.ReferenceIdeal.main_arg3)) := by
    funext j
    obtain ⟨r, n, rfl⟩ : ∃ (r n : Fin 512), j = ix2 r n := ⟨j 0, j 1, ValueIdx.eq_ix2 j⟩
    rw [whole_apply, result_apply]
    refine Eq.trans (Finset.sum_congr rfl fun t _ => ?_)
      (gated_blocks (K := 32) (N := 1024) (T := 32768) (by decide) _ _ _ _
        (fun t => Layout.block ⟨2, ![512, 1024]⟩ ⟨2, ![512, 32768]⟩ 1 32 t (m' (((0 : Dev Cert.ReferenceIdeal.nD).tc : Thread _ Cert.ReferenceIdeal.τ).loc Cert.ReferenceIdeal.main_arg1)))
        (fun t => Layout.block ⟨2, ![512, 1024]⟩ ⟨2, ![512, 32768]⟩ 1 32 t (m' (((0 : Dev Cert.ReferenceIdeal.nD).tc : Thread _ Cert.ReferenceIdeal.τ).loc Cert.ReferenceIdeal.main_arg2)))
        (fun t => Layout.block ⟨2, ![1024, 512]⟩ ⟨2, ![32768, 512]⟩ 0 32 t (m' (((0 : Dev Cert.ReferenceIdeal.nD).tc : Thread _ Cert.ReferenceIdeal.τ).loc Cert.ReferenceIdeal.main_arg3)))
        (cols_apply _) (cols_apply _) (rows_apply _) r n)
    obtain ⟨h0, h1, h2, h3⟩ := hagree t
    rw [h0, h1, h2, h3]
  refine ⟨result (F := Ideal) m, ?_, ?_⟩
  · exact (θ_run Cert.KernelIdeal.defs _ _).mono (fun _ h => h.1) (run_main (F := Ideal) m ρ)
  · exact (θ_run Cert.ReferenceIdeal.defs _ _).mono (fun _ h => ⟨((h 0).1).trans hv.symm, (h 0).2⟩)
      (Cert.ReferenceIdeal.Value.run (F := Ideal) m' ρ')

theorem claim : Cert.Claim := ⟨Cert.Kernel.Gen.facts, Cert.KernelIdeal.Gen.facts, Cert.ReferenceIdeal.Gen.facts,
  frame_kernel, frame_kernelIdeal, frame_reference, trivial, algebraic⟩

end Cert.Proof

end
